-- ==== Defs.lean ====
def Pre_Kernel [hPre_pools_in_range : Cert.Pre_pools_in_range.Facts] (m : (ℓ : Loc Cert.Kernel.nD Cert.Kernel.τ Cert.Kernel.sig) → Buf (Elt Bits) ℓ) : Prop :=
  ∀ c : Dev Cert.Kernel.nD,
    (Cert.Pre_pools_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pools_in_range : Cert.Pre_pools_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pools_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pools_in_range [hPre_pools_in_range : Cert.Pre_pools_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pools_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pools_in_range : Cert.Pre_pools_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pools_in_range : Cert.Pre_pools_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pools_in_range [hReferenceIdeal : Cert.ReferenceIdeal.Facts] [hPre_pools_in_range : Cert.Pre_pools_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pools_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pools_in_range : Cert.Pre_pools_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pools_in_range : Cert.Pre_pools_in_range.Facts),
    quiescent_Kernel (hKernel := hKernel) (hPre_pools_in_range := hPre_pools_in_range)
    ∧ quiescent_KernelIdeal (hKernelIdeal := hKernelIdeal) (hPre_pools_in_range := hPre_pools_in_range)
    ∧ quiescent_ReferenceIdeal (hReferenceIdeal := hReferenceIdeal)
    ∧ quiescent_ReferenceIdeal_pre_pools_in_range (hReferenceIdeal := hReferenceIdeal) (hPre_pools_in_range := hPre_pools_in_range)
    ∧ preserves_Kernel_KernelIdeal
    ∧ algebraic_KernelIdeal_ReferenceIdeal (hKernelIdeal := hKernelIdeal) (hReferenceIdeal := hReferenceIdeal) (hPre_pools_in_range := hPre_pools_in_range)
-- ==== Pre_pools_in_range.lean ====
abbrev S100000x128 : Shape := ⟨2, ![100000, 128]⟩
abbrev S25000x16 : Shape := ⟨2, ![25000, 16]⟩
abbrev S_ : Shape := ⟨0, ![]⟩

class Facts : Prop where
  bcast_S_S25000x16 : S_.BroadcastsInDim S25000x16 (![] : Fin 0 → Fin S25000x16.rank)
  reducesTo_S25000x16_S_d0_1 : S25000x16.ReducesTo [0, 1] S_
  h_S_ : 0 < S_.numel

variable [Facts]

def fn {F : FTy → Type} [FloatOps F] (main_arg0 : FVec F S100000x128 .f32) (main_arg1 : IVec S25000x16 32) : IVec S_ 1 :=
  let main_c : IVec S_ 32 := constantI S_ 32 0#32
  let main_v0 : IVec S25000x16 32 := broadcastInDim S25000x16 ![] bcast_S_S25000x16 main_c
  let main_v1 : IVec S25000x16 1 := cmpi .sge main_arg1 main_v0
  let main_c_0 : IVec S_ 32 := constantI S_ 32 100000#32
  let main_v2 : IVec S25000x16 32 := broadcastInDim S25000x16 ![] bcast_S_S25000x16 main_c_0
  let main_v3 : IVec S25000x16 1 := cmpi .slt main_arg1 main_v2
  let main_v4 : IVec S25000x16 1 := andi main_v1 main_v3
  let main_c_1 : IVec S_ 1 := constantI S_ 1 1#1
  let main_v5 : IVec S_ 1 := (fun x v => Host.reduce IntOp.andi x v reducesTo_S25000x16_S_d0_1 h_S_) main_v4 main_c_1
  main_v5
-- ==== Kernel.lean ====
abbrev S100000x128 : Shape := ⟨2, ![100000, 128]⟩
abbrev S25000x16 : Shape := ⟨2, ![25000, 16]⟩
abbrev S_ : Shape := ⟨0, ![]⟩
abbrev S25088x16 : Shape := ⟨2, ![25088, 16]⟩
abbrev S32x98x128 : Shape := ⟨3, ![32, 98, 128]⟩
abbrev S25088x128 : Shape := ⟨2, ![25088, 128]⟩
abbrev S98x128 : Shape := ⟨2, ![98, 128]⟩
abbrev S2x128x128 : Shape := ⟨3, ![2, 128, 128]⟩
abbrev S8x128 : Shape := ⟨2, ![8, 128]⟩
abbrev S1x98x128 : Shape := ⟨3, ![1, 98, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x16 : Shape := ⟨3, ![1, 1, 16]⟩
abbrev S16 : Shape := ⟨1, ![16]⟩
abbrev S1x16 : Shape := ⟨2, ![1, 16]⟩
abbrev S25000x128 : Shape := ⟨2, ![25000, 128]⟩

abbrev nBuf : Table → Nat
  | .hbm => 8
  | .local .scVector .vmem => 3
  | _ => 0

abbrev bufTy : (tb : Table) → Fin (nBuf tb) → BufTy
  | .hbm, ⟨0, _⟩ => ⟨S100000x128, .f32⟩
  | .hbm, ⟨1, _⟩ => ⟨S25000x16, .i32⟩
  | .hbm, ⟨2, _⟩ => ⟨S_, .i32⟩
  | .hbm, ⟨3, _⟩ => ⟨S_, .i32⟩
  | .hbm, ⟨4, _⟩ => ⟨S25088x16, .i32⟩
  | .hbm, ⟨5, _⟩ => ⟨S32x98x128, .i32⟩
  | .hbm, ⟨6, _⟩ => ⟨S25088x128, .f32⟩
  | .hbm, ⟨7, _⟩ => ⟨S25000x128, .f32⟩
  | .local .scVector .vmem, ⟨0, _⟩ => ⟨S98x128, .i32⟩
  | .local .scVector .vmem, ⟨1, _⟩ => ⟨S2x128x128, .f32⟩
  | .local .scVector .vmem, ⟨2, _⟩ => ⟨S8x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16_r0 : BitVec 32 := 0#32
  let c0_i32_17_r0 : BitVec 32 := 0#32
  ![v1.toNat, 0, 0]
@[reducible] def k0_t1_loop : Scf.Loop 32 :=
  let c0_i32_13 : BitVec 32 := 0#32
  let c49_i32 : BitVec 32 := 49#32
  let v13 : BitVec 32 := Scalar.addi c0_i32_13 c49_i32
  let c1_i32_14 : BitVec 32 := 1#32
  ⟨c0_i32_13, v13, c1_i32_14⟩
def k0_off2 (k0_t1 : Fin k0_t1_loop.trips) (c0_i32_17 : BitVec 32) : Fin 2 → Nat :=
  let c0_i32_13 : BitVec 32 := 0#32
  let c1_i32_14 : BitVec 32 := 1#32
  let arg10 : BitVec 32 := Scf.iv c0_i32_13 c1_i32_14 k0_t1
  let c2_i32_16 : BitVec 32 := 2#32
  let v15 : BitVec 32 := Scalar.muli arg10 c2_i32_16
  let v16 : BitVec 32 := Scalar.addi v15 c0_i32_17
  let c0_i32_21 : BitVec 32 := 0#32
  ![v16.toNat, 0]
@[reducible] def k0_t2_loop : Scf.Loop 32 :=
  let c0_i32_25 : BitVec 32 := 0#32
  let c8_i32 : BitVec 32 := 8#32
  let v22 : BitVec 32 := Scalar.addi c0_i32_25 c8_i32
  let c1_i32_26 : BitVec 32 := 1#32
  ⟨c0_i32_25, v22, c1_i32_26⟩
def k0_off3 (k0_t2 : Fin k0_t2_loop.trips) : Fin 3 → Nat :=
  let c0_i32_49 : BitVec 32 := 0#32
  let v46 : Index := Scalar.indexCast c0_i32_49
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v47 : Index := Scalar.indexCast v45
  let c0 : Index := 0#32
  ![0, v47.toNat, 0]
def k0_off4 (k0_t2 : Fin k0_t2_loop.trips) (c1_i32_50 : BitVec 32) : Fin 3 → Nat :=
  let c0_i32_51 : BitVec 32 := 0#32
  let v51 : Index := Scalar.indexCast c0_i32_51
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v50 : BitVec 32 := Scalar.addi v45 c1_i32_50
  let v52 : Index := Scalar.indexCast v50
  let c0_52 : Index := 0#32
  ![0, v52.toNat, 0]
def k0_off5 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v140 : Index := Scalar.indexCast arg12
  let c0_83 : Index := 0#32
  ![v140.toNat, 0]
def k0_off6 (k0_t2 : Fin k0_t2_loop.trips) : Fin 3 → Nat :=
  let c0_i32_84 : BitVec 32 := 0#32
  let v144 : Index := Scalar.indexCast c0_i32_84
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v145 : Index := Scalar.indexCast v45
  let c16 : Index := 16#32
  ![0, v145.toNat, 16]
def k0_off7 (k0_t2 : Fin k0_t2_loop.trips) (c1_i32_85 : BitVec 32) : Fin 3 → Nat :=
  let c0_i32_86 : BitVec 32 := 0#32
  let v149 : Index := Scalar.indexCast c0_i32_86
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v148 : BitVec 32 := Scalar.addi v45 c1_i32_85
  let v150 : Index := Scalar.indexCast v148
  let c16_87 : Index := 16#32
  ![0, v150.toNat, 16]
def k0_off8 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v238 : Index := Scalar.indexCast arg12
  let c16_130 : Index := 16#32
  ![v238.toNat, 16]
def k0_off9 (k0_t2 : Fin k0_t2_loop.trips) : Fin 3 → Nat :=
  let c0_i32_131 : BitVec 32 := 0#32
  let v242 : Index := Scalar.indexCast c0_i32_131
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v243 : Index := Scalar.indexCast v45
  let c32 : Index := 32#32
  ![0, v243.toNat, 32]
def k0_off10 (k0_t2 : Fin k0_t2_loop.trips) (c1_i32_132 : BitVec 32) : Fin 3 → Nat :=
  let c0_i32_133 : BitVec 32 := 0#32
  let v247 : Index := Scalar.indexCast c0_i32_133
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v246 : BitVec 32 := Scalar.addi v45 c1_i32_132
  let v248 : Index := Scalar.indexCast v246
  let c32_134 : Index := 32#32
  ![0, v248.toNat, 32]
def k0_off11 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v336 : Index := Scalar.indexCast arg12
  let c32_177 : Index := 32#32
  ![v336.toNat, 32]
def k0_off12 (k0_t2 : Fin k0_t2_loop.trips) : Fin 3 → Nat :=
  let c0_i32_178 : BitVec 32 := 0#32
  let v340 : Index := Scalar.indexCast c0_i32_178
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v341 : Index := Scalar.indexCast v45
  let c48 : Index := 48#32
  ![0, v341.toNat, 48]
def k0_off13 (k0_t2 : Fin k0_t2_loop.trips) (c1_i32_179 : BitVec 32) : Fin 3 → Nat :=
  let c0_i32_180 : BitVec 32 := 0#32
  let v345 : Index := Scalar.indexCast c0_i32_180
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v344 : BitVec 32 := Scalar.addi v45 c1_i32_179
  let v346 : Index := Scalar.indexCast v344
  let c48_181 : Index := 48#32
  ![0, v346.toNat, 48]
def k0_off14 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v434 : Index := Scalar.indexCast arg12
  let c48_224 : Index := 48#32
  ![v434.toNat, 48]
def k0_off15 (k0_t2 : Fin k0_t2_loop.trips) : Fin 3 → Nat :=
  let c0_i32_225 : BitVec 32 := 0#32
  let v438 : Index := Scalar.indexCast c0_i32_225
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v439 : Index := Scalar.indexCast v45
  let c64 : Index := 64#32
  ![0, v439.toNat, 64]
def k0_off16 (k0_t2 : Fin k0_t2_loop.trips) (c1_i32_226 : BitVec 32) : Fin 3 → Nat :=
  let c0_i32_227 : BitVec 32 := 0#32
  let v443 : Index := Scalar.indexCast c0_i32_227
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v442 : BitVec 32 := Scalar.addi v45 c1_i32_226
  let v444 : Index := Scalar.indexCast v442
  let c64_228 : Index := 64#32
  ![0, v444.toNat, 64]
def k0_off17 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v532 : Index := Scalar.indexCast arg12
  let c64_271 : Index := 64#32
  ![v532.toNat, 64]
def k0_off18 (k0_t2 : Fin k0_t2_loop.trips) : Fin 3 → Nat :=
  let c0_i32_272 : BitVec 32 := 0#32
  let v536 : Index := Scalar.indexCast c0_i32_272
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v537 : Index := Scalar.indexCast v45
  let c80 : Index := 80#32
  ![0, v537.toNat, 80]
def k0_off19 (k0_t2 : Fin k0_t2_loop.trips) (c1_i32_273 : BitVec 32) : Fin 3 → Nat :=
  let c0_i32_274 : BitVec 32 := 0#32
  let v541 : Index := Scalar.indexCast c0_i32_274
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v540 : BitVec 32 := Scalar.addi v45 c1_i32_273
  let v542 : Index := Scalar.indexCast v540
  let c80_275 : Index := 80#32
  ![0, v542.toNat, 80]
def k0_off20 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v630 : Index := Scalar.indexCast arg12
  let c80_318 : Index := 80#32
  ![v630.toNat, 80]
def k0_off21 (k0_t2 : Fin k0_t2_loop.trips) : Fin 3 → Nat :=
  let c0_i32_319 : BitVec 32 := 0#32
  let v634 : Index := Scalar.indexCast c0_i32_319
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v635 : Index := Scalar.indexCast v45
  let c96 : Index := 96#32
  ![0, v635.toNat, 96]
def k0_off22 (k0_t2 : Fin k0_t2_loop.trips) (c1_i32_320 : BitVec 32) : Fin 3 → Nat :=
  let c0_i32_321 : BitVec 32 := 0#32
  let v639 : Index := Scalar.indexCast c0_i32_321
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v638 : BitVec 32 := Scalar.addi v45 c1_i32_320
  let v640 : Index := Scalar.indexCast v638
  let c96_322 : Index := 96#32
  ![0, v640.toNat, 96]
def k0_off23 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v728 : Index := Scalar.indexCast arg12
  let c96_365 : Index := 96#32
  ![v728.toNat, 96]
def k0_off24 (k0_t2 : Fin k0_t2_loop.trips) : Fin 3 → Nat :=
  let c0_i32_366 : BitVec 32 := 0#32
  let v732 : Index := Scalar.indexCast c0_i32_366
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v733 : Index := Scalar.indexCast v45
  let c112 : Index := 112#32
  ![0, v733.toNat, 112]
def k0_off25 (k0_t2 : Fin k0_t2_loop.trips) (c1_i32_367 : BitVec 32) : Fin 3 → Nat :=
  let c0_i32_368 : BitVec 32 := 0#32
  let v737 : Index := Scalar.indexCast c0_i32_368
  let c0_i32_25 : BitVec 32 := 0#32
  let c1_i32_26 : BitVec 32 := 1#32
  let arg12 : BitVec 32 := Scf.iv c0_i32_25 c1_i32_26 k0_t2
  let c16_i32 : BitVec 32 := 16#32
  let v45 : BitVec 32 := Scalar.muli arg12 c16_i32
  let v736 : BitVec 32 := Scalar.addi v45 c1_i32_367
  let v738 : Index := Scalar.indexCast v736
  let c112_369 : Index := 112#32
  ![0, v738.toNat, 112]
def k0_off26 (k0_t2 : Fin k0_t2_loop.trips) : Fin 2 → Nat :=
  let c0_i32_25 : BitVec 32 := 0#32
  let c1_i32_26 : BitVec 32 := 1#32
  let arg12 : BitVec 32 := Scf.iv c0_i32_25 c1_i32_26 k0_t2
  let v826 : Index := Scalar.indexCast arg12
  let c112_412 : Index := 112#32
  ![v826.toNat, 112]
def k0_off27 (i : grid0.Coords) (k0_t1 : Fin k0_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let c0_i32_13 : BitVec 32 := 0#32
  let c1_i32_14 : BitVec 32 := 1#32
  let arg10 : BitVec 32 := Scf.iv c0_i32_13 c1_i32_14 k0_t1
  let c2_i32_16 : BitVec 32 := 2#32
  let v15 : BitVec 32 := Scalar.muli arg10 c2_i32_16
  let v16 : BitVec 32 := Scalar.addi v15 c0_i32_17
  let c8_i32_28 : BitVec 32 := 8#32
  let v24 : BitVec 32 := Scalar.muli v16 c8_i32_28
  let v25 : BitVec 32 := Scalar.addi v2 v24
  let c0_i32_49_r1 : BitVec 32 := 0#32
  ![v25.toNat, 0]
def k0_cond1 (k0_t1 : Fin k0_t1_loop.trips) : BitVec 1 :=
  let c0_i32_13 : BitVec 32 := 0#32
  let c1_i32_14 : BitVec 32 := 1#32
  let arg10 : BitVec 32 := Scf.iv c0_i32_13 c1_i32_14 k0_t1
  let c2_i32_16 : BitVec 32 := 2#32
  let v15 : BitVec 32 := Scalar.muli arg10 c2_i32_16
  let c0_i32_17 : BitVec 32 := 0#32
  let v16 : BitVec 32 := Scalar.addi v15 c0_i32_17
  let c2_i32_29 : BitVec 32 := 2#32
  let v26 : BitVec 32 := Scalar.addi v16 c2_i32_29
  let c98_i32 : BitVec 32 := 98#32
  let v27 : BitVec 1 := Scalar.cmpi .slt v26 c98_i32
  let v28 : BitVec 32 := Scalar.extui v27
  let c0_i32_30 : BitVec 32 := 0#32
  let v29 : BitVec 1 := Scalar.cmpi .ne v28 c0_i32_30
  v29

def k0_off28 (k0_t1 : Fin k0_t1_loop.trips) : Fin 2 → Nat :=
  let c0_i32_13 : BitVec 32 := 0#32
  let c1_i32_14 : BitVec 32 := 1#32
  let arg10 : BitVec 32 := Scf.iv c0_i32_13 c1_i32_14 k0_t1
  let c2_i32_16 : BitVec 32 := 2#32
  let v15 : BitVec 32 := Scalar.muli arg10 c2_i32_16
  let c0_i32_17 : BitVec 32 := 0#32
  let v16 : BitVec 32 := Scalar.addi v15 c0_i32_17
  let c2_i32_29 : BitVec 32 := 2#32
  let v26 : BitVec 32 := Scalar.addi v16 c2_i32_29
  let c0_i32_52 : BitVec 32 := 0#32
  ![v26.toNat, 0]
@[reducible] def k0_t3_loop : Scf.Loop 32 :=
  let c0_i32_40 : BitVec 32 := 0#32
  let c8_i32_41 : BitVec 32 := 8#32
  let v37 : BitVec 32 := Scalar.addi c0_i32_40 c8_i32_41
  let c1_i32_42 : BitVec 32 := 1#32
  ⟨c0_i32_40, v37, c1_i32_42⟩
def k0_off29 (k0_t3 : Fin k0_t3_loop.trips) : Fin 3 → Nat :=
  let c1_i32_49 : BitVec 32 := 1#32
  let v46 : Index := Scalar.indexCast c1_i32_49
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v47 : Index := Scalar.indexCast v45
  let c0 : Index := 0#32
  ![1, v47.toNat, 0]
def k0_off30 (k0_t3 : Fin k0_t3_loop.trips) (c1_i32_50 : BitVec 32) : Fin 3 → Nat :=
  let c1_i32_51 : BitVec 32 := 1#32
  let v51 : Index := Scalar.indexCast c1_i32_51
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v50 : BitVec 32 := Scalar.addi v45 c1_i32_50
  let v52 : Index := Scalar.indexCast v50
  let c0_52 : Index := 0#32
  ![1, v52.toNat, 0]
def k0_off31 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v140 : Index := Scalar.indexCast arg12
  let c0_83 : Index := 0#32
  ![v140.toNat, 0]
def k0_off32 (k0_t3 : Fin k0_t3_loop.trips) : Fin 3 → Nat :=
  let c1_i32_84 : BitVec 32 := 1#32
  let v144 : Index := Scalar.indexCast c1_i32_84
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v145 : Index := Scalar.indexCast v45
  let c16 : Index := 16#32
  ![1, v145.toNat, 16]
def k0_off33 (k0_t3 : Fin k0_t3_loop.trips) (c1_i32_85 : BitVec 32) : Fin 3 → Nat :=
  let c1_i32_86 : BitVec 32 := 1#32
  let v149 : Index := Scalar.indexCast c1_i32_86
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v148 : BitVec 32 := Scalar.addi v45 c1_i32_85
  let v150 : Index := Scalar.indexCast v148
  let c16_87 : Index := 16#32
  ![1, v150.toNat, 16]
def k0_off34 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v238 : Index := Scalar.indexCast arg12
  let c16_130 : Index := 16#32
  ![v238.toNat, 16]
def k0_off35 (k0_t3 : Fin k0_t3_loop.trips) : Fin 3 → Nat :=
  let c1_i32_131 : BitVec 32 := 1#32
  let v242 : Index := Scalar.indexCast c1_i32_131
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v243 : Index := Scalar.indexCast v45
  let c32 : Index := 32#32
  ![1, v243.toNat, 32]
def k0_off36 (k0_t3 : Fin k0_t3_loop.trips) (c1_i32_132 : BitVec 32) : Fin 3 → Nat :=
  let c1_i32_133 : BitVec 32 := 1#32
  let v247 : Index := Scalar.indexCast c1_i32_133
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v246 : BitVec 32 := Scalar.addi v45 c1_i32_132
  let v248 : Index := Scalar.indexCast v246
  let c32_134 : Index := 32#32
  ![1, v248.toNat, 32]
def k0_off37 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v336 : Index := Scalar.indexCast arg12
  let c32_177 : Index := 32#32
  ![v336.toNat, 32]
def k0_off38 (k0_t3 : Fin k0_t3_loop.trips) : Fin 3 → Nat :=
  let c1_i32_178 : BitVec 32 := 1#32
  let v340 : Index := Scalar.indexCast c1_i32_178
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v341 : Index := Scalar.indexCast v45
  let c48 : Index := 48#32
  ![1, v341.toNat, 48]
def k0_off39 (k0_t3 : Fin k0_t3_loop.trips) (c1_i32_179 : BitVec 32) : Fin 3 → Nat :=
  let c1_i32_180 : BitVec 32 := 1#32
  let v345 : Index := Scalar.indexCast c1_i32_180
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v344 : BitVec 32 := Scalar.addi v45 c1_i32_179
  let v346 : Index := Scalar.indexCast v344
  let c48_181 : Index := 48#32
  ![1, v346.toNat, 48]
def k0_off40 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v434 : Index := Scalar.indexCast arg12
  let c48_224 : Index := 48#32
  ![v434.toNat, 48]
def k0_off41 (k0_t3 : Fin k0_t3_loop.trips) : Fin 3 → Nat :=
  let c1_i32_225 : BitVec 32 := 1#32
  let v438 : Index := Scalar.indexCast c1_i32_225
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v439 : Index := Scalar.indexCast v45
  let c64 : Index := 64#32
  ![1, v439.toNat, 64]
def k0_off42 (k0_t3 : Fin k0_t3_loop.trips) (c1_i32_226 : BitVec 32) : Fin 3 → Nat :=
  let c1_i32_227 : BitVec 32 := 1#32
  let v443 : Index := Scalar.indexCast c1_i32_227
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v442 : BitVec 32 := Scalar.addi v45 c1_i32_226
  let v444 : Index := Scalar.indexCast v442
  let c64_228 : Index := 64#32
  ![1, v444.toNat, 64]
def k0_off43 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v532 : Index := Scalar.indexCast arg12
  let c64_271 : Index := 64#32
  ![v532.toNat, 64]
def k0_off44 (k0_t3 : Fin k0_t3_loop.trips) : Fin 3 → Nat :=
  let c1_i32_272 : BitVec 32 := 1#32
  let v536 : Index := Scalar.indexCast c1_i32_272
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v537 : Index := Scalar.indexCast v45
  let c80 : Index := 80#32
  ![1, v537.toNat, 80]
def k0_off45 (k0_t3 : Fin k0_t3_loop.trips) (c1_i32_273 : BitVec 32) : Fin 3 → Nat :=
  let c1_i32_274 : BitVec 32 := 1#32
  let v541 : Index := Scalar.indexCast c1_i32_274
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v540 : BitVec 32 := Scalar.addi v45 c1_i32_273
  let v542 : Index := Scalar.indexCast v540
  let c80_275 : Index := 80#32
  ![1, v542.toNat, 80]
def k0_off46 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v630 : Index := Scalar.indexCast arg12
  let c80_318 : Index := 80#32
  ![v630.toNat, 80]
def k0_off47 (k0_t3 : Fin k0_t3_loop.trips) : Fin 3 → Nat :=
  let c1_i32_319 : BitVec 32 := 1#32
  let v634 : Index := Scalar.indexCast c1_i32_319
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v635 : Index := Scalar.indexCast v45
  let c96 : Index := 96#32
  ![1, v635.toNat, 96]
def k0_off48 (k0_t3 : Fin k0_t3_loop.trips) (c1_i32_320 : BitVec 32) : Fin 3 → Nat :=
  let c1_i32_321 : BitVec 32 := 1#32
  let v639 : Index := Scalar.indexCast c1_i32_321
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v638 : BitVec 32 := Scalar.addi v45 c1_i32_320
  let v640 : Index := Scalar.indexCast v638
  let c96_322 : Index := 96#32
  ![1, v640.toNat, 96]
def k0_off49 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v728 : Index := Scalar.indexCast arg12
  let c96_365 : Index := 96#32
  ![v728.toNat, 96]
def k0_off50 (k0_t3 : Fin k0_t3_loop.trips) : Fin 3 → Nat :=
  let c1_i32_366 : BitVec 32 := 1#32
  let v732 : Index := Scalar.indexCast c1_i32_366
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v733 : Index := Scalar.indexCast v45
  let c112 : Index := 112#32
  ![1, v733.toNat, 112]
def k0_off51 (k0_t3 : Fin k0_t3_loop.trips) (c1_i32_367 : BitVec 32) : Fin 3 → Nat :=
  let c1_i32_368 : BitVec 32 := 1#32
  let v737 : Index := Scalar.indexCast c1_i32_368
  let c0_i32_40 : BitVec 32 := 0#32
  let c1_i32_42 : BitVec 32 := 1#32
  let arg12 : BitVec 32 := Scf.iv c0_i32_40 c1_i32_42 k0_t3
  let c16_i32 : BitVec 32 := 16#32
  let v45 : BitVec 32 := Scalar.muli arg12 c16_i32
  let v736 : BitVec 32 := Scalar.addi v45 c1_i32_367
  let v738 : Index := Scalar.indexCast v736
  let c112_369 : Index := 112#32
  ![1, v738.toNat, 112]
def k0_off52 (k0_t3 : Fin k0_t3_loop.trips) : Fin 2 → Nat :=
  let c0_i32_40 : BitVec 32 := 0#32
  let c1_i32_42 : BitVec 32 := 1#32
  let arg12 : BitVec 32 := Scf.iv c0_i32_40 c1_i32_42 k0_t3
  let v826 : Index := Scalar.indexCast arg12
  let c112_412 : Index := 112#32
  ![v826.toNat, 112]
def k0_cond2 (k0_t1 : Fin k0_t1_loop.trips) : BitVec 1 :=
  let c0_i32_13 : BitVec 32 := 0#32
  let c1_i32_14 : BitVec 32 := 1#32
  let arg10 : BitVec 32 := Scf.iv c0_i32_13 c1_i32_14 k0_t1
  let c2_i32_31 : BitVec 32 := 2#32
  let v30 : BitVec 32 := Scalar.muli arg10 c2_i32_31
  let c1_i32_32 : BitVec 32 := 1#32
  let v31 : BitVec 32 := Scalar.addi v30 c1_i32_32
  let c2_i32_45 : BitVec 32 := 2#32
  let v41 : BitVec 32 := Scalar.addi v31 c2_i32_45
  let c98_i32_46 : BitVec 32 := 98#32
  let v42 : BitVec 1 := Scalar.cmpi .slt v41 c98_i32_46
  let v43 : BitVec 32 := Scalar.extui v42
  let c0_i32_47 : BitVec 32 := 0#32
  let v44 : BitVec 1 := Scalar.cmpi .ne v43 c0_i32_47
  v44

def k0_off53 (k0_t1 : Fin k0_t1_loop.trips) : Fin 2 → Nat :=
  let c0_i32_13 : BitVec 32 := 0#32
  let c1_i32_14 : BitVec 32 := 1#32
  let arg10 : BitVec 32 := Scf.iv c0_i32_13 c1_i32_14 k0_t1
  let c2_i32_31 : BitVec 32 := 2#32
  let v30 : BitVec 32 := Scalar.muli arg10 c2_i32_31
  let c1_i32_32 : BitVec 32 := 1#32
  let v31 : BitVec 32 := Scalar.addi v30 c1_i32_32
  let c2_i32_45 : BitVec 32 := 2#32
  let v41 : BitVec 32 := Scalar.addi v31 c2_i32_45
  let c0_i32_52 : BitVec 32 := 0#32
  ![v41.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S25000x16 : Shape := ⟨2, ![25000, 16]⟩
abbrev S1x128 : Shape := ⟨2, ![1, 128]⟩
abbrev S_ : Shape := ⟨0, ![]⟩
abbrev S100001x128 : Shape := ⟨2, ![100001, 128]⟩
abbrev S25000x16x1 : Shape := ⟨3, ![25000, 16, 1]⟩
abbrev S1 : Shape := ⟨1, ![1]⟩
abbrev S1x1x1 : Shape := ⟨3, ![1, 1, 1]⟩
abbrev S25000x16x128 : Shape := ⟨3, ![25000, 16, 128]⟩
abbrev S25000x128 : Shape := ⟨2, ![25000, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S25000x16, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S100001x128, .f32⟩
  | .hbm, ⟨6, _⟩ => ⟨S_, .i32⟩
  | .hbm, ⟨7, _⟩ => ⟨S25000x16, .i32⟩
  | .hbm, ⟨8, _⟩ => ⟨S25000x16, .i1⟩
  | .hbm, ⟨9, _⟩ => ⟨S_, .i32⟩
  | .hbm, ⟨10, _⟩ => ⟨S25000x16, .i32⟩
  | .hbm, ⟨11, _⟩ => ⟨S25000x16, .i32⟩
  | .hbm, ⟨12, _⟩ => ⟨S25000x16, .i32⟩
  | .hbm, ⟨13, _⟩ => ⟨S25000x16x1, .i32⟩
  | .hbm, ⟨14, _⟩ => ⟨S1, .i32⟩
  | .hbm, ⟨15, _⟩ => ⟨S_, .i32⟩
  | .hbm, ⟨16, _⟩ => ⟨S25000x16x1, .i32⟩
  | .hbm, ⟨17, _⟩ => ⟨S25000x16x1, .i1⟩
  | .hbm, ⟨18, _⟩ => ⟨S1x1x1, .i32⟩
  | .hbm, ⟨19, _⟩ => ⟨S25000x16x1, .i32⟩
  | .hbm, ⟨20, _⟩ => ⟨S25000x16x1, .i1⟩
  | .hbm, ⟨21, _⟩ => ⟨S25000x16x1, .i1⟩
  | .hbm, ⟨22, _⟩ => ⟨S_, .i1⟩
  | .hbm, ⟨23, _⟩ => ⟨S25000x16, .i1⟩
  | .hbm, ⟨24, _⟩ => ⟨S25000x16x128, .f32⟩
  | .hbm, ⟨25, _⟩ => ⟨S25000x16x128, .i1⟩
  | .hbm, ⟨26, _⟩ => ⟨S_, .f32⟩
  | .hbm, ⟨27, _⟩ => ⟨S25000x16x128, .f32⟩
  | .hbm, ⟨28, _⟩ => ⟨S25000x16x128, .f32⟩
  | .hbm, ⟨29, _⟩ => ⟨S_, .f32⟩
  | .hbm, ⟨30, _⟩ => ⟨S25000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Base.lean ====
/-
  The program as the launch theorem sees it, the buffers and views its tasks name, and the value a task computes:
  row `r` of a chunk is, column by column, the left fold of `maximumf` over sixteen gathered rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake rounds beside the transfers' counters. -/
abbrev UH : Type := URounds (GSem nD τ sig) ℕ
abbrev UU : Type := UH × Counters

local notation "𝕄" => MT nD τ sig (HIx 1) (Elt F) ℕ UU ℕ

/-! ## The views a task names -/

/-- `x`, the index blocks and the output as a task addresses them. -/
abbrev xV : Memref sig .scVector .hbm S100000x128 .f32 := Memref.whole main_arg0_scv
abbrev pV : Memref sig .scVector .hbm S32x98x128 .i32 := Memref.whole main_v1_scv
abbrev oV : Memref sig .scVector .hbm S25088x128 .f32 := Memref.whole main_v2_scv
/-- A task's own buffers: its index rows, its two slots of gathered rows, its eight result rows. -/
abbrev iV : Memref sig .scVector .vmem S98x128 .i32 := Memref.whole cc0_scratch0
abbrev gV : Memref sig .scVector .vmem S2x128x128 .f32 := Memref.whole cc0_scratch1
abbrev rV : Memref sig .scVector .vmem S8x128 .f32 := Memref.whole cc0_scratch2

/-- The two slots of gathered rows. -/
abbrev slot0 : Memref sig .scVector .vmem S128x128 .f32 :=
  ((gV).slice (Rect.unit (s := S2x128x128) ![0, 0, 0] S1x128x128.size inb_S2x128x128_S1x128x128_0_0_0) (fun _ => rfl)).squeeze S128x128 squeezes_S1x128x128_S128x128
abbrev slot1 : Memref sig .scVector .vmem S128x128 .f32 :=
  ((gV).slice (Rect.unit (s := S2x128x128) ![1, 0, 0] S1x128x128.size inb_S2x128x128_S1x128x128_1_0_0) (fun _ => rfl)).squeeze S128x128 squeezes_S1x128x128_S128x128

abbrev cV (L : grid0.Coords) : Fin τ.nSC := (L 0).castLE hcore0
abbrev jV (L : grid0.Coords) : Fin τ.nSub := (L 1).castLE hsub0

/-! ## The value of a row -/

/-- The index `(a, b, c)` of the slots' buffer, each coordinate taken modulo its axis. -/
def at3 (a b c : ℕ) : S2x128x128.Idx := fun
  | ⟨0, _⟩ => Fin.ofNat 2 a
  | ⟨1, _⟩ => Fin.ofNat 128 b
  | ⟨2, _⟩ => Fin.ofNat 128 c

variable [FloatOps F]

/-- The left fold of `maximumf` over `h 0, …, h n`. -/
def foldMax (h : ℕ → F .f32) : ℕ → F .f32
  | 0 => h 0
  | n + 1 => FloatOps.maximumf (foldMax h n) (h (n + 1))

/-- Row `r`, column `c` of the chunk held in slot `a`: the maximum of the sixteen rows `16 r, …, 16 r + 15`. -/
def rowMax (g : S2x128x128.Idx → F .f32) (a r c : ℕ) : F .f32 := foldMax (fun j => g (at3 a (16 * r + j) c)) 15

/-- The result rows once the first `n` are those of slot `a`, the others still `f`'s. -/
def rowsTo (g : S2x128x128.Idx → F .f32) (a n : ℕ) (f : S8x128.Idx → F .f32) : S8x128.Idx → F .f32 :=
  fun y => if (y 0).val < n then rowMax g a (y 0).val (y 1).val else f y

end Cert.Proof.Pool

end
-- ==== Proof.Row.lean ====
/-
  One row of a chunk: a trip of the inner loop reads the sixteen gathered rows of its pool, sixteen columns at a time, and
  stores the running maximum. What it leaves is the result rows with that row's maxima in place.
-/
module

public import proofs.«01_k».proof.Proof.Base
public import Idealize.ShloMosaic.Lib.ValueLayout

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A load's and a store's words at an index -/

/-- Sixteen columns of a gathered row, read at column `y` of them: the slots' buffer at the load's own place. -/
theorem load_at {off : Fin 3 → ℕ} [h : ClosedOff off] (inb : ∀ a, off a + S1x1x16.size a ≤ S2x128x128.size a)
    (g : S2x128x128.Idx → F .f32) (y : S16.Idx) :
    shapeCast (α := F .f32) S16 ((gV).view.readAt (Elt F) (Rect.unit (s := S2x128x128) off S1x1x16.size inb).toLoadRect g) shapeCasts_S1x1x16_S16 y
      = g (at3 (h.form 0) (h.form 1) (h.form 2 + (y 0).val)) := by
  rw [← h.eq]
  refine (shapeCast_apply (α := F .f32) (s := S1x1x16) (t := S16) _ _ y (ValueIdx.ix3 (0 : Fin 1) (0 : Fin 1) (y 0)) (by
    rw [Shape.rowMajor_val_three, Shape.rowMajor_val_one]; simp [ValueIdx.ix3])).trans ?_
  show g _ = g _
  congr 1
  funext a
  apply Fin.ext
  have h0 := inb 0
  have h1 := inb 1
  have h2 := inb 2
  have hy : (y 0).val < 16 := (y 0).isLt
  simp [Shape.size] at h0 h1 h2
  match a with
  | ⟨0, _⟩ => show off 0 + 1 * 0 = off 0 % 2; omega
  | ⟨1, _⟩ => show off 1 + 1 * 0 = off 1 % 128; omega
  | ⟨2, _⟩ => show off 2 + 1 * (y 0).val = (off 2 + (y 0).val) % 128; omega

/-- A stored row of sixteen columns at column `x` of them. -/
theorem store_at (v : FVec F S16 .f32) (x : S1x16.Idx) :
    shapeCast (α := F .f32) S1x16 v shapeCasts_S16_S1x16 x = v (ValueIdx.ix1 (x 1) : S16.Idx) := by
  refine shapeCast_apply (α := F .f32) (s := S16) (t := S1x16) _ _ x (ValueIdx.ix1 (x 1)) ?_
  rw [Shape.rowMajor_val_two, Shape.rowMajor_val_one]
  have : (x 0).val < 1 := (x 0).isLt
  simp [ValueIdx.ix1]
  omega

/-- The place of a stored row: its row and its sixteen columns. -/
theorem mem_row {off : Fin 2 → ℕ} [h : ClosedOff off] (inb : ∀ a, off a + S1x16.size a ≤ S8x128.size a) (y : S8x128.Idx) :
    y ∈ (Rect.unit (s := S8x128) off S1x16.size inb).set
      ↔ h.form 0 = (y 0).val ∧ h.form 1 ≤ (y 1).val ∧ (y 1).val < h.form 1 + 16 := by
  rw [← h.eq, Rect.mem_set_unit]
  constructor
  · intro hy
    have h0 : off 0 ≤ (y 0).val ∧ (y 0).val < off 0 + 1 := hy 0
    exact ⟨by omega, hy 1⟩
  · rintro ⟨h0, h1⟩ a
    match a with
    | ⟨0, _⟩ => exact ⟨h0.le, by show (y 0).val < off 0 + 1; omega⟩
    | ⟨1, _⟩ => exact h1

/-- A stored piece holds the maxima of row `k` of slot `a` at columns `16 v, …, 16 v + 15`. -/
def RowPiece (g : S2x128x128.Idx → F .f32) (a k v : ℕ) (p : View.Piece (Elt F) S8x128 .f32) : Prop :=
  (∀ x, ((p.1.emb x) 0).val = k ∧ p.2 x = rowMax g a k ((p.1.emb x) 1).val)
    ∧ ∀ y : S8x128.Idx, (y 0).val = k → 16 * v ≤ (y 1).val → (y 1).val < 16 * v + 16 → y ∈ p.1.set

/-- A store of one row of sixteen words, at row `k` and column `16 v`, of the maxima there. -/
theorem rowPiece_of {off : Fin 2 → ℕ} [h : ClosedOff off] (g : S2x128x128.Idx → F .f32) (a k v : ℕ)
    (inb : ∀ a, off a + S1x16.size a ≤ S8x128.size a) (w : FVec F S16 .f32)
    (h0 : h.form 0 = k) (h1 : h.form 1 = 16 * v) (hw : ∀ y : S16.Idx, w y = rowMax g a k (16 * v + (y 0).val)) :
    RowPiece g a k v ⟨Rect.unit (s := S8x128) off S1x16.size inb, shapeCast (α := F .f32) S1x16 w shapeCasts_S16_S1x16⟩ := by
  constructor
  · intro x
    have hx : (x 0).val < 1 := (x 0).isLt
    have e0 : (((Rect.unit (s := S8x128) off S1x16.size inb).emb x) 0).val = k := by
      show off 0 + 1 * (x 0).val = k
      rw [← h0, ← h.eq]; omega
    have e1 : (((Rect.unit (s := S8x128) off S1x16.size inb).emb x) 1).val = 16 * v + (x 1).val := by
      show off 1 + 1 * (x 1).val = _
      rw [← h1, ← h.eq]; omega
    refine ⟨e0, ?_⟩
    show shapeCast (α := F .f32) S1x16 w shapeCasts_S16_S1x16 x = rowMax g a k (((Rect.unit (s := S8x128) off S1x16.size inb).emb x) 1).val
    rw [e1, store_at, hw]
  · intro y hy hlo hhi
    exact (mem_row inb y).2 ⟨h0.trans hy.symm, by omega, by omega⟩

/-- One more gathered row folded into the running maximum. -/
theorem fold_load {off : Fin 3 → ℕ} [h : ClosedOff off] (inb : ∀ a, off a + S1x1x16.size a ≤ S2x128x128.size a)
    (g : S2x128x128.Idx → F .f32) (u : FVec F S16 .f32) (y : S16.Idx) (H : ℕ → F .f32) (n : ℕ)
    (hu : u y = foldMax H n) (hg : g (at3 (h.form 0) (h.form 1) (h.form 2 + (y 0).val)) = H (n + 1)) :
    maximumf u (shapeCast (α := F .f32) S16 ((gV).view.readAt (Elt F) (Rect.unit (s := S2x128x128) off S1x1x16.size inb).toLoadRect g) shapeCasts_S1x1x16_S16) y
      = foldMax H (n + 1) := by
  show FloatOps.maximumf (u y) (shapeCast (α := F .f32) S16 _ shapeCasts_S1x1x16_S16 y) = FloatOps.maximumf (foldMax H n) (H (n + 1))
  rw [hu, load_at, hg]

/-- The pieces of one trip's eight stores, each the maxima of row `k` in its own columns and together the whole row,
turn the rows of which the first `k` are done into those of which the first `k + 1` are. -/
theorem writes_row (g : S2x128x128.Idx → F .f32) (a k : ℕ) (f : S8x128.Idx → F .f32)
    (P : List (View.Piece (Elt F) S8x128 .f32)) (hP : List.Forall₂ (RowPiece g a k) [7, 6, 5, 4, 3, 2, 1, 0] P) :
    (rV).view.writes (Elt F) (rowsTo g a k f) P = rowsTo g a (k + 1) f := by
  have key : ∀ {l : List ℕ} {P : List (View.Piece (Elt F) S8x128 .f32)}, List.Forall₂ (RowPiece g a k) l P →
      (∀ v ∈ l, ∃ p ∈ P, RowPiece g a k v p) ∧ ∀ p ∈ P, ∃ v, RowPiece g a k v p := by
    intro l P h
    induction h with
    | nil => simp
    | @cons v p l P hv _ ih =>
      refine ⟨fun w hw => ?_, fun q hq => ?_⟩
      · rcases List.mem_cons.1 hw with rfl | hw
        · exact ⟨p, List.mem_cons_self, hv⟩
        · obtain ⟨q, hq, h⟩ := ih.1 w hw
          exact ⟨q, List.mem_cons_of_mem _ hq, h⟩
      · rcases List.mem_cons.1 hq with rfl | hq
        · exact ⟨v, hv⟩
        · exact ih.2 q hq
  obtain ⟨hc, hp⟩ := key hP
  funext y
  show (rV).view.read (Elt F) _ y = _
  by_cases hy : (y 0).val = k
  · have h1 : (y 1).val < 128 := (y 1).isLt
    obtain ⟨p, hm, hpp⟩ := hc ((y 1).val / 16) (by
      have : (y 1).val / 16 < 8 := by omega
      generalize (y 1).val / 16 = n at this
      interval_cases n <;> simp)
    rw [View.read_writes_apply_of_pieces _ _ (rowsTo g a (k + 1) f) P (fun p hm x => ?_) y
      ⟨p, hm, hpp.2 y hy (by omega) (by omega)⟩]
    obtain ⟨v, hv⟩ := hp p hm
    obtain ⟨h0, h1⟩ := hv.1 x
    rw [h1]; unfold rowsTo; rw [if_pos (by omega), h0]
  · rw [View.read_writes_apply_of_forall_not_mem _ _ y P fun p hm hin => ?_]
    · show rowsTo g a k f y = _
      unfold rowsTo
      split_ifs <;> first | rfl | omega
    · obtain ⟨x, rfl⟩ : ∃ x, p.1.emb x = y := p.1.exists_idx_of_mem hin
      obtain ⟨v, hv⟩ := hp p hm
      exact hy (hv.1 x).1

/-! ## A trip of the inner loop -/

variable (d : Dev nD) (L : grid0.Coords)

/-- The rectangle of slot 0, and of slot 1, in the slots' buffer. -/
abbrev slotR0 : Rect S2x128x128 := Rect.unit ![0, 0, 0] S1x128x128.size inb_S2x128x128_S1x128x128_0_0_0
abbrev slotR1 : Rect S2x128x128 := Rect.unit ![1, 0, 0] S1x128x128.size inb_S2x128x128_S1x128x128_1_0_0

/-- Slot 0's elements of the slots' buffer, and slot 1's. -/
def slotPts0 (g : Buf (Elt F) ((gV).view.loc (V d (cV L) (jV L)))) : sProp 𝕄 :=
  iprop((gV).view.loc (V d (cV L) (jV L)) ↦[(gV).view.setOn (Rect.unit (s := S2x128x128) ![0, 0, 0] S1x128x128.size inb_S2x128x128_S1x128x128_0_0_0).set]{fullShare} g)
def slotPts1 (g : Buf (Elt F) ((gV).view.loc (V d (cV L) (jV L)))) : sProp 𝕄 :=
  iprop((gV).view.loc (V d (cV L) (jV L)) ↦[(gV).view.setOn (Rect.unit (s := S2x128x128) ![1, 0, 0] S1x128x128.size inb_S2x128x128_S1x128x128_1_0_0).set]{fullShare} g)

set_option maxHeartbeats 4000000 in
/-- A trip of the inner loop over slot 0: row `k` of the result rows becomes the maxima of slot 0's pool `k`. -/
theorem row0 (g : Buf (Elt F) ((gV).view.loc (V d (cV L) (jV L)))) (f : Buf (Elt F) ((rV).view.loc (V d (cV L) (jV L))))
    (v2 : BitVec 32) (t1 : Fin k0_t1_loop.trips) (k : Fin k0_t2_loop.trips) (a : BitVec 32) (Q : BitVec 32 → sProp 𝕄)
    (hQ : iprop(slotPts0 d L g ∗ ((rV).view.loc (V d (cV L) (jV L)) ↦{fullShare} rowsTo g 0 (k.val + 1) f)) ⊢ Q 0#32) :
    iprop(slotPts0 d L g ∗ ((rV).view.loc (V d (cV L) (jV L)) ↦{fullShare} rowsTo g 0 k.val f))
      ⊢ wp frame (wpE (defs₀ (F := F)) 𝒱₀ (V d (cV L) (jV L)) none) Set.univ
          (k0_t2_body L xV (Memref.isWhole_whole _) pV (Memref.isWhole_whole _) oV (Memref.isWhole_whole _)
            iV (Memref.isWhole_whole _) gV (Memref.isWhole_whole _) rV (Memref.isWhole_whole _)
            cc0_scratch3 cc0_scratch4 cc0_scoped0 cc0_scoped1 cc0_scoped2 v2 0#32 1#32 t1 k a) Q := by
  have hk : k.val < 8 := k.isLt
  unfold k0_t2_body slotPts0
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  iintro ⟨Hg, Hr⟩
  sl_exec
  rw [writes_row g 0 k.val f _ (by
    repeat' first | exact List.Forall₂.nil | refine List.Forall₂.cons ?_ ?_
    all_goals
      refine rowPiece_of g _ _ _ _ _ rfl rfl fun y => ?_
      iterate 15 refine fold_load _ g _ y _ _ ?_ rfl
      exact load_at _ g y)]
  rw [wp_ret]
  imodintro
  iapply hQ
  unfold slotPts0
  isplitl [Hg]
  · iexact Hg
  · iexact Hr

set_option maxHeartbeats 4000000 in
/-- A trip of the inner loop over slot 1: row `k` of the result rows becomes the maxima of slot 1's pool `k`. -/
theorem row1 (g : Buf (Elt F) ((gV).view.loc (V d (cV L) (jV L)))) (f : Buf (Elt F) ((rV).view.loc (V d (cV L) (jV L))))
    (k : Fin k0_t3_loop.trips) (a : BitVec 32) (Q : BitVec 32 → sProp 𝕄)
    (hQ : iprop(slotPts1 d L g ∗ ((rV).view.loc (V d (cV L) (jV L)) ↦{fullShare} rowsTo g 1 (k.val + 1) f)) ⊢ Q 0#32) :
    iprop(slotPts1 d L g ∗ ((rV).view.loc (V d (cV L) (jV L)) ↦{fullShare} rowsTo g 1 k.val f))
      ⊢ wp frame (wpE (defs₀ (F := F)) 𝒱₀ (V d (cV L) (jV L)) none) Set.univ
          (k0_t3_body L xV (Memref.isWhole_whole _) pV (Memref.isWhole_whole _) oV (Memref.isWhole_whole _)
            iV (Memref.isWhole_whole _) gV (Memref.isWhole_whole _) rV (Memref.isWhole_whole _)
            cc0_scratch3 cc0_scratch4 cc0_scoped0 cc0_scoped1 cc0_scoped2 k a) Q := by
  have hk : k.val < 8 := k.isLt
  unfold k0_t3_body slotPts1
  rw [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  iintro ⟨Hg, Hr⟩
  sl_exec
  rw [writes_row g 1 k.val f _ (by
    repeat' first | exact List.Forall₂.nil | refine List.Forall₂.cons ?_ ?_
    all_goals
      refine rowPiece_of g _ _ _ _ _ rfl rfl fun y => ?_
      iterate 15 refine fold_load _ g _ y _ _ ?_ rfl
      exact load_at _ g y)]
  rw [wp_ret]
  imodintro
  iapply hQ
  unfold slotPts1
  isplitl [Hg]
  · iexact Hg
  · iexact Hr

end Cert.Proof.Pool

end
-- ==== Proof.Gather.lean ====
/-
  A gather of 128 rows of `x` into one slot: what the slot holds once it has landed, and the transfer as a step that keeps
  in flight the slot, a share of `x` and a share of the index list.
-/
module

public import proofs.«01_k».proof.Proof.Row

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Indices -/

/-- Row `r`, column `c` of `x`; entry `c` of row `n` of the index list: each coordinate taken modulo its axis. -/
def xAt (r c : ℕ) : S100000x128.Idx := fun
  | ⟨0, _⟩ => Fin.ofNat 100000 r
  | ⟨1, _⟩ => Fin.ofNat 128 c
def iAt (n c : ℕ) : S98x128.Idx := fun
  | ⟨0, _⟩ => Fin.ofNat 98 n
  | ⟨1, _⟩ => Fin.ofNat 128 c

/-- Slot `b` of the slots' buffer holds the rows of `x` that row `n` of the list names. -/
def Holds (X : S100000x128.Idx → F .f32) (I : S98x128.Idx → BitVec 32) (b n : ℕ) (g : S2x128x128.Idx → F .f32) : Prop :=
  ∀ j < 128, ∀ c < 128, g (at3 b j c) = X (xAt (I (iAt n j)).toNat c)

/-- The slots' indices of slot `b`. -/
def slotSet (b : ℕ) : Finset S2x128x128.Idx := Finset.univ.filter fun y => (y 0).val = b

theorem mem_slotSet {b : ℕ} {y : S2x128x128.Idx} : y ∈ slotSet b ↔ (y 0).val = b := by simp [slotSet]

/-! ## The views at a slot's and a list row's offsets -/

/-- The slot's view at offsets `o`, and the list's row at offsets `o`. -/
abbrev slotAt (o : Fin 3 → ℕ) (h : ∀ a, o a + S1x128x128.size a ≤ S2x128x128.size a) : Memref sig .scVector .vmem S128x128 .f32 :=
  ((gV).slice (Rect.unit (s := S2x128x128) o S1x128x128.size h) (fun _ => rfl)).squeeze S128x128 squeezes_S1x128x128_S128x128
abbrev listAt (o : Fin 2 → ℕ) (h : ∀ a, o a + S1x128.size a ≤ S98x128.size a) : Memref sig .scVector .vmem S128 .i32 :=
  ((iV).slice (Rect.unit (s := S98x128) o S1x128.size h) (fun _ => rfl)).squeeze S128 squeezes_S1x128_S128
/-- All of `x`, as a gather names it. -/
abbrev xAll : Memref sig .scVector .hbm S100000x128 .f32 :=
  (xV).slice (Rect.unit (s := S100000x128) ![0, 0] S100000x128.size inb_S100000x128_S100000x128_0_0) (fun _ => rfl)

omit [FloatOps F] in
/-- A slot's rectangle is its indices. -/
theorem slotRect_set {b : ℕ} (h : ∀ a, (![b, 0, 0] : Fin 3 → ℕ) a + S1x128x128.size a ≤ S2x128x128.size a) :
    (Rect.unit (s := S2x128x128) ![b, 0, 0] S1x128x128.size h).set = slotSet b := by
  ext y
  rw [Rect.mem_set_unit, mem_slotSet]
  constructor
  · intro hy
    have := hy 0
    simp [Shape.size] at this
    omega
  · intro hy a
    have h1 : (y 1).val < 128 := (y 1).isLt
    have h2 : (y 2).val < 128 := (y 2).isLt
    match a with
    | ⟨0, _⟩ => show b ≤ (y 0).val ∧ (y 0).val < b + 1; omega
    | ⟨1, _⟩ => show 0 ≤ (y 1).val ∧ (y 1).val < 0 + 128; omega
    | ⟨2, _⟩ => show 0 ≤ (y 2).val ∧ (y 2).val < 0 + 128; omega

omit [FloatOps F] in
theorem setOn_slotRect {b : ℕ} (h : ∀ a, (![b, 0, 0] : Fin 3 → ℕ) a + S1x128x128.size a ≤ S2x128x128.size a) :
    (gV).view.setOn (Rect.unit (s := S2x128x128) ![b, 0, 0] S1x128x128.size h).set = slotSet b := by
  rw [slotRect_set]
  exact Finset.map_refl

omit [FloatOps F] in
theorem slotAt_set {b : ℕ} (h : ∀ a, (![b, 0, 0] : Fin 3 → ℕ) a + S1x128x128.size a ≤ S2x128x128.size a) :
    (slotAt ![b, 0, 0] h).view.set = slotSet b :=
  ((View.set_reshape _ _).trans (View.set_slice _ _)).trans (setOn_slotRect h)

omit [FloatOps F] in
/-- Where row `j`, column `c` of a slot sits in the slots' buffer. -/
theorem slotAt_emb {b : ℕ} (h : ∀ a, (![b, 0, 0] : Fin 3 → ℕ) a + S1x128x128.size a ≤ S2x128x128.size a) (j c : Fin 128) :
    (slotAt ![b, 0, 0] h).view.emb (ValueIdx.ix2 j c : S128x128.Idx) = at3 b j c := by
  have e : Shape.reshapeEquiv (Shape.Squeezes.numel_eq squeezes_S1x128x128_S128x128) (ValueIdx.ix2 j c : S128x128.Idx)
      = (ValueIdx.ix3 (0 : Fin 1) j c : S1x128x128.Idx) := ValueIdx.reshapeEquiv_ix2_1ab _ j c
  show (Rect.unit (s := S2x128x128) ![b, 0, 0] S1x128x128.size h).emb (Shape.reshapeEquiv _ (ValueIdx.ix2 j c : S128x128.Idx)) = _
  rw [e]
  have h0 := h 0
  simp [Shape.size] at h0
  funext a
  apply Fin.ext
  match a with
  | ⟨0, _⟩ => show b + 1 * 0 = b % 2; omega
  | ⟨1, _⟩ => show 0 + 1 * j.val = j.val % 128; omega
  | ⟨2, _⟩ => show 0 + 1 * c.val = c.val % 128; omega

omit [FloatOps F] in
/-- Where entry `j` of row `n` of the list sits in the list's buffer. -/
theorem listAt_emb {n : ℕ} (h : ∀ a, (![n, 0] : Fin 2 → ℕ) a + S1x128.size a ≤ S98x128.size a) (x : S128.Idx) :
    (listAt ![n, 0] h).view.emb x = iAt n (x 0).val := by
  have e : Shape.reshapeEquiv (Shape.Squeezes.numel_eq squeezes_S1x128_S128) x
      = (ValueIdx.ix2 (0 : Fin 1) (x 0) : S1x128.Idx) := Shape.reshapeEquiv_eq_of_rowMajor _ (by
    rw [Shape.rowMajor_val_two, Shape.rowMajor_val_one]; simp [ValueIdx.ix2])
  show (Rect.unit (s := S98x128) ![n, 0] S1x128.size h).emb (Shape.reshapeEquiv _ x) = _
  rw [e]
  have h0 := h 0
  have hx : (x 0).val < 128 := (x 0).isLt
  simp [Shape.size] at h0
  funext a
  apply Fin.ext
  match a with
  | ⟨0, _⟩ => show n + 1 * 0 = n % 98; omega
  | ⟨1, _⟩ => show 0 + 1 * (x 0).val = (x 0).val % 128; omega

/-- The list's row as the gather reads it. -/
theorem listAt_read {n : ℕ} (h : ∀ a, (![n, 0] : Fin 2 → ℕ) a + S1x128.size a ≤ S98x128.size a) (I : S98x128.Idx → BitVec 32) (x : S128.Idx) :
    (listAt ![n, 0] h).view.read (Elt F) I x = I (iAt n (x 0).val) := by
  rw [View.read_apply]
  exact congrArg I (listAt_emb h x)

/-- What the gather leaves in the slot. -/
theorem holds_gather {b n : ℕ} (h3 : ∀ a, (![b, 0, 0] : Fin 3 → ℕ) a + S1x128x128.size a ≤ S2x128x128.size a)
    (h2 : ∀ a, (![n, 0] : Fin 2 → ℕ) a + S1x128.size a ≤ S98x128.size a)
    (X : S100000x128.Idx → F .f32) (I : S98x128.Idx → BitVec 32) (g : S2x128x128.Idx → F .f32)
    (hin : ∀ x, ((listAt ![n, 0] h2).view.read (Elt F) I x).toNat < S100000x128.size gathers_S100000x128_S128x128.axis)
    (hn : S128.numel = S128x128.size gathers_S100000x128_S128x128.axis') :
    Holds X I b n ((slotAt ![b, 0, 0] h3).view.write (Elt F) g
      (SparseCore.gatherPayload gathers_S100000x128_S128x128 ((xAll).view.read (Elt F) X)
        (SparseCore.rows ((listAt ![n, 0] h2).view.read (Elt F) I) hn hin)) Finset.univ) := by
  intro j hj c hc
  have e := slotAt_emb h3 ⟨j, hj⟩ ⟨c, hc⟩
  refine (congrArg _ e.symm).trans ((View.write_emb_of_mem (v := (slotAt ![b, 0, 0] h3).view) (Val := Elt F) _ _ (Finset.mem_univ _)).trans ?_)
  refine (cast_eq _ _).trans ?_
  show X _ = X _
  congr 1
  funext a
  apply Fin.ext
  match a with
  | ⟨0, _⟩ =>
    show 0 + 1 * (Shape.Gathers.idx _ _ (ValueIdx.ix2 (⟨j, hj⟩ : Fin 128) (⟨c, hc⟩ : Fin 128) : S128x128.Idx) gathers_S100000x128_S128x128.axis).val = _
    rw [Shape.Gathers.idx_axis]
    show 0 + 1 * ((listAt ![n, 0] h2).view.read (Elt F) I _).toNat = (I (iAt n j)).toNat % 100000
    have ej : (S128.rowMajor.symm ((⟨j, hj⟩ : Fin 128).cast hn.symm) 0).val = j := by
      rw [← Shape.rowMajor_val_one, Equiv.apply_symm_apply]; rfl
    have hr : ((listAt ![n, 0] h2).view.read (Elt F) I (S128.rowMajor.symm ((⟨j, hj⟩ : Fin 128).cast hn.symm))).toNat < 100000 := hin _
    rw [listAt_read, ej] at hr
    refine (congrArg (fun w : BitVec 32 => 0 + 1 * w.toNat) ((listAt_read h2 I (S128.rowMajor.symm ((⟨j, hj⟩ : Fin 128).cast hn.symm))).trans
      (congrArg (fun q => I (iAt n q)) ej))).trans ?_
    show 0 + 1 * (I (iAt n j)).toNat = _
    omega
  | ⟨1, _⟩ =>
    show 0 + 1 * (Shape.Gathers.idx _ _ (ValueIdx.ix2 (⟨j, hj⟩ : Fin 128) (⟨c, hc⟩ : Fin 128) : S128x128.Idx) 1).val = _
    rw [Shape.Gathers.idx_of_ne _ _ _ _ (by decide)]
    show 0 + 1 * c = c % 128
    omega

/-! ## The transfer as a step -/

section Step

variable (d : Fin nD) (L : grid0.Coords)

/-- Slot `b` of a task's slots' buffer, held outright at `g`. -/
def slotIs (b : ℕ) (g : S2x128x128.Idx → F .f32) : sProp 𝕄 :=
  iprop((gV).view.loc (V d (cV L) (jV L)) ↦[slotSet b]{fullShare} g)

omit [FloatOps F] in
theorem slotPts0_eq (g : S2x128x128.Idx → F .f32) : slotPts0 (F := F) d L g = slotIs d L 0 g := by
  unfold slotPts0 slotIs; rw [setOn_slotRect]

omit [FloatOps F] in
theorem slotPts1_eq (g : S2x128x128.Idx → F .f32) : slotPts1 (F := F) d L g = slotIs d L 1 g := by
  unfold slotPts1 slotIs; rw [setOn_slotRect]

/-- What a landed gather of list row `n` into slot `b` hands back: the slot at those rows of `x`, and the shares of `x` and
    of the list it was lent. -/
def landed (X : S100000x128.Idx → F .f32) (I : S98x128.Idx → BitVec 32) (qx qi : PosShare TreeShare) (b n : ℕ) : sProp 𝕄 :=
  iprop((∃ g, ⌜Holds X I b n g⌝ ∗ slotIs d L b g)
    ∗ ((xV).view.loc (V d (cV L) (jV L)) ↦{qx} X) ∗ ((iV).view.loc (V d (cV L) (jV L)) ↦{qi} I))

/-- A slot's bytes as its gather's semaphore counts them. -/
abbrev slotCredit : ℕ := (slot0).view.dmaCredit

/-- The gather of list row `n` into slot `b`, in flight on semaphore `sem`. -/
abbrev inFlight (X : S100000x128.Idx → F .f32) (I : S98x128.Idx → BitVec 32) (qx qi : PosShare TreeShare) (sem : DmaSem sig) (b n : ℕ) : sProp 𝕄 :=
  Transfers.Flight countersEmb (V d (cV L) (jV L)) (.dma sem) (default : HIx 1) slotCredit (landed d L X I qx qi b n)

/-- The gather not yet issued: the slot at any contents, the shares, the semaphore at zero. -/
def idle (X : S100000x128.Idx → F .f32) (I : S98x128.Idx → BitVec 32) (qx qi : PosShare TreeShare) (sem : DmaSem sig) (b : ℕ) : sProp 𝕄 :=
  iprop((∃ g, slotIs d L b g) ∗ ((xV).view.loc (V d (cV L) (jV L)) ↦{qx} X) ∗ ((iV).view.loc (V d (cV L) (jV L)) ↦{qi} I)
    ∗ semVal (V d (cV L) (jV L), SemLoc.dma sem) 0)

omit [FloatOps F] in
theorem idle_intro (X : S100000x128.Idx → F .f32) (I : S98x128.Idx → BitVec 32) (qx qi : PosShare TreeShare) (sem : DmaSem sig) (b : ℕ)
    (g : S2x128x128.Idx → F .f32) :
    iprop(slotIs d L b g ∗ ((xV).view.loc (V d (cV L) (jV L)) ↦{qx} X) ∗ ((iV).view.loc (V d (cV L) (jV L)) ↦{qi} I)
      ∗ semVal (V d (cV L) (jV L), SemLoc.dma sem) 0) ⊢ idle d L X I qx qi sem b := by
  unfold idle
  iintro ⟨Hg, H⟩
  isplitl [Hg]; · iexists g; iexact Hg
  iexact H

omit [FloatOps F] in
/-- The rows of a slot count, together, as the slot does. -/
theorem rows_credit (hg : S100000x128.Gathers 0 S128x128) (o : Fin 3 → ℕ) (h : ∀ a, o a + S1x128x128.size a ≤ S2x128x128.size a) :
    ∑ j, ((slotAt o h).slice (S128x128.rowRect hg.axis' j) (S128x128.stride_rowRect hg.axis' j)).view.dmaCredit = slotCredit := by
  have h0 : ∀ hg : S100000x128.Gathers 0 S128x128,
      ∑ j, ((slot0).slice (S128x128.rowRect hg.axis' j) (S128x128.stride_rowRect hg.axis' j)).view.dmaCredit = slotCredit := by decide
  exact (Finset.sum_congr rfl fun j _ => rfl).trans (h0 hg)

/-- Issuing the gather: list row `n` into slot `b`, every index of the list a row of `x`. -/
theorem issue {α : Type} {Q : α → sProp 𝕄} (X : S100000x128.Idx → F .f32) (I : S98x128.Idx → BitVec 32) (hI : ∀ y, (I y).toNat < 100000)
    (qx qi : PosShare TreeShare) (sem : DmaSem sig) (b n : ℕ)
    (o3 : Fin 3 → ℕ) (e3 : o3 = ![b, 0, 0]) (h3 : ∀ a, o3 a + S1x128x128.size a ≤ S2x128x128.size a)
    (o2 : Fin 2 → ℕ) (e2 : o2 = ![n, 0]) (h2 : ∀ a, o2 a + S1x128.size a ≤ S98x128.size a)
    {hp} {hn} {hsrc} {he} {hsp} {hr}
    (k : PUnit → Prog (TpuEff nD τ sig (Elt F) Λ₀ (.scVector (cV L) (jV L))) α) :
    idle d L X I qx qi sem b
      ⊢ iprop((inFlight d L X I qx qi sem b n -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp xAll (slotAt o3 h3) gathers_S100000x128_S128x128 (listAt o2 h2) hn sem hsrc he hsp hr >>= k) Q) := by
  subst e3 e2
  unfold idle
  iintro ⟨⟨%g, Hg⟩, Hx, Hi, Hs⟩ Hk
  have hin : ∀ x, ((listAt ![n, 0] h2).view.read (Elt F) I x).toNat < S100000x128.size gathers_S100000x128_S128x128.axis :=
    fun x => by rw [listAt_read]; exact hI _
  ihave Hxs := (pointsTo_split_subset (q := qx) (f := X) (S := Finset.univ) (Finset.subset_univ (xAll).view.set)).1 $$ Hx
  icases Hxs with ⟨Hxs, Hxr⟩
  ihave His := (pointsTo_split_subset (q := qi) (f := I) (S := Finset.univ) (Finset.subset_univ (listAt ![n, 0] h2).view.set)).1 $$ Hi
  icases His with ⟨His, Hir⟩
  ihave Hg' := (Entails.of_eq (show slotIs (F := F) d L b g = iprop((slotAt ![b, 0, 0] h3).view.loc (V d (cV L) (jV L)) ↦[(slotAt ![b, 0, 0] h3).view.set]{fullShare} g)
    from by unfold slotIs; rw [slotAt_set])) $$ Hg
  iapply (SparseCore.wp_indirectGatherLocal countersEmb 𝒱₀ (V d (cV L) (jV L)) none (hg := gathers_S100000x128_S128x128) (default : HIx 1)
      slotCredit (rows_credit gathers_S100000x128_S128x128 _ h3) (by decide) hin) $$ [Hxs Hg' His Hs]
  · isplitl [Hxs]; · iexact Hxs
    isplitl [Hg']; · iexact Hg'
    isplitl [His]; · iexact His
    iexact Hs
  iintro Hfl
  iapply Hk
  ihave Hfr := (Transfers.Flight_frame (R := iprop(((xV).view.loc (V d (cV L) (jV L)) ↦[Finset.univ \ (xAll).view.set]{qx} X)
      ∗ ((iV).view.loc (V d (cV L) (jV L)) ↦[Finset.univ \ (listAt ![n, 0] h2).view.set]{qi} I))) countersEmb (V d (cV L) (jV L))) $$ [Hxr Hir Hfl]
  · isplitl [Hxr Hir]
    · isplitl [Hxr] <;> iassumption
    · iexact Hfl
  iapply (Transfers.Flight_mono countersEmb (V d (cV L) (jV L)) ?_) $$ Hfr
  unfold landed
  iintro ⟨⟨Hxr, Hir⟩, Hg, Hxs, His⟩
  isplitl [Hg]
  · iexists ((slotAt ![b, 0, 0] h3).view.write (Elt F) g
      (SparseCore.gatherPayload gathers_S100000x128_S128x128 ((xAll).view.read (Elt F) X)
        (SparseCore.rows ((listAt ![n, 0] h2).view.read (Elt F) I) hn hin)) Finset.univ)
    isplitr
    · ipureintro; exact holds_gather h3 h2 X I g hin hn
    · unfold slotIs; rw [← slotAt_set h3]; iexact Hg
  isplitl [Hxs Hxr]
  · iapply (pointsTo_split_subset (q := qx) (f := X) (S := Finset.univ) (Finset.subset_univ (xAll).view.set)).2
    isplitl [Hxs] <;> iassumption
  · iapply (pointsTo_split_subset (q := qi) (f := I) (S := Finset.univ) (Finset.subset_univ (listAt ![n, 0] h2).view.set)).2
    isplitl [His] <;> iassumption

/-- The wait for a gather in flight into slot `b`: the slot landed, the shares back, the semaphore at zero again. -/
theorem await {α : Type} {Q : α → sProp 𝕄} (X : S100000x128.Idx → F .f32) (I : S98x128.Idx → BitVec 32)
    (qx qi : PosShare TreeShare) (sem : DmaSem sig) (b n : ℕ)
    (o3 : Fin 3 → ℕ) (h3 : ∀ a, o3 a + S1x128x128.size a ≤ S2x128x128.size a) {hsrc} {hdst}
    (O : CellTallies nD τ sig (HIx 1)) (W : Waits sig (HIx 1))
    (k : PUnit → Prog (TpuEff nD τ sig (Elt F) Λ₀ (.scVector (cV L) (jV L))) α) :
    iprop(inFlight d L X I qx qi sem b n ∗ owes (V d (cV L) (jV L)) O W ∗ Transfers.MayWaits (V d (cV L) (jV L)) (default : HIx 1) O)
      ⊢ iprop((iprop(landed d L X I qx qi b n ∗ semVal (V d (cV L) (jV L), SemLoc.dma sem) 0
            ∗ owes (V d (cV L) (jV L)) O (insert (SemLoc.dma sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (.op (.waitDma2 sem xAll (slotAt o3 h3) hsrc hdst) k) Q) := by
  iintro ⟨Hfl, HO, Hmw⟩ Hk
  iapply (Transfers.wp_waitLocalO countersEmb 𝒱₀ (V d (cV L) (jV L)) none (default : HIx 1) (rfl : (slotAt o3 h3).view.dmaCredit = slotCredit)) $$ [Hfl HO Hmw]
  · isplitl [Hfl]; · iexact Hfl
    isplitl [HO]; · iexact HO
    iapply (Transfers.MayWaits.elim (SemLoc.dma sem)) $$ Hmw
  iexact Hk

end Step

end Cert.Proof.Pool

end
-- ==== Proof.Trip.lean ====
/-
  A trip of a task's outer loop: two chunks of eight result rows, one from each slot, each written out to the task's block
  of the output, and the gathers of the two chunks after them issued into the slots just read.
-/
module

public import proofs.«01_k».proof.Proof.Gather

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A task's block of the output -/

/-- The first row of the block of the task at core `L 0`, subcore `L 1`. -/
def base (L : grid0.Coords) : ℕ := 1568 * (L 1).val + 784 * (L 0).val

omit [FloatOps F] in
theorem core_lt (L : grid0.Coords) : (L 0).val < 2 := (L 0).isLt
omit [FloatOps F] in
theorem sub_lt (L : grid0.Coords) : (L 1).val < 16 := (L 1).isLt

theorem base_inb (L : grid0.Coords) : ∀ a, (![1568 * (L 1).val + 784 * (L 0).val, 0] : Fin 2 → ℕ) a + (![784, 128] : Fin 2 → ℕ) a ≤ S25088x128.size a := by
  have h0 := core_lt L
  have h1 := sub_lt L
  intro a
  match a with
  | ⟨0, _⟩ => show 1568 * (L 1).val + 784 * (L 0).val + 784 ≤ 25088; omega
  | ⟨1, _⟩ => show 0 + 128 ≤ 128; omega

/-- Row `r`, column `c` of the output, each coordinate taken modulo its axis. -/
def oAt (r c : ℕ) : S25088x128.Idx := fun
  | ⟨0, _⟩ => Fin.ofNat 25088 r
  | ⟨1, _⟩ => Fin.ofNat 128 c

/-- Row `y`, column `c` of a task's block: the maximum of the sixteen rows of `x` its list names for row `y`. -/
def outVal (X : S100000x128.Idx → F .f32) (I : S98x128.Idx → BitVec 32) (y c : ℕ) : F .f32 :=
  foldMax (fun j => X (xAt (I (iAt (y / 8) (16 * (y % 8) + j))).toNat c)) 15

/-- The first `n` chunks of the task's block are computed. -/
def Done (L : grid0.Coords) (X : S100000x128.Idx → F .f32) (I : S98x128.Idx → BitVec 32) (n : ℕ) (fo : S25088x128.Idx → F .f32) : Prop :=
  ∀ y < 8 * n, ∀ c < 128, fo (oAt (base L + y) c) = outVal X I y c

omit [FloatOps F] in
/-- A window of eight rows of the output, at row `r`. -/
abbrev outWin (o : Fin 2 → ℕ) (h : ∀ a, o a + S8x128.size a ≤ S25088x128.size a) : Memref sig .scVector .hbm S8x128 .f32 :=
  (oV).slice (Rect.unit (s := S25088x128) o S8x128.size h) (fun _ => rfl)

omit [FloatOps F] in
theorem mem_outWin {r : ℕ} (h : ∀ a, (![r, 0] : Fin 2 → ℕ) a + S8x128.size a ≤ S25088x128.size a) (i : S25088x128.Idx) :
    i ∈ (outWin ![r, 0] h).view.setOn Finset.univ ↔ r ≤ (i 0).val ∧ (i 0).val < r + 8 := by
  have e : (outWin ![r, 0] h).view.setOn Finset.univ = (Rect.unit (s := S25088x128) ![r, 0] S8x128.size h).set :=
    (View.set_slice (v := (oV).view) _).trans Finset.map_refl
  rw [e, Rect.mem_set_unit]
  constructor
  · intro hi; exact hi 0
  · intro hi a
    have h1 : (i 1).val < 128 := (i 1).isLt
    match a with
    | ⟨0, _⟩ => exact hi
    | ⟨1, _⟩ => show 0 ≤ (i 1).val ∧ (i 1).val < 0 + 128; omega

omit [FloatOps F] in
theorem outWin_emb {r : ℕ} (h : ∀ a, (![r, 0] : Fin 2 → ℕ) a + S8x128.size a ≤ S25088x128.size a) (y : Fin 8) (c : Fin 128) :
    (outWin ![r, 0] h).view.emb (ValueIdx.ix2 y c : S8x128.Idx) = oAt (r + y.val) c.val := by
  have h0 : r + 8 ≤ 25088 := h 0
  funext a
  apply Fin.ext
  match a with
  | ⟨0, _⟩ => show r + 1 * y.val = (r + y.val) % 25088; omega
  | ⟨1, _⟩ => show 0 + 1 * c.val = c.val % 128; omega

/-- Two folds agree when their terms do. -/
theorem foldMax_congr {h h' : ℕ → F .f32} : ∀ {n : ℕ}, (∀ j ≤ n, h j = h' j) → foldMax h n = foldMax h' n
  | 0, e => e 0 (Nat.le_refl 0)
  | n + 1, e => congrArg₂ FloatOps.maximumf (foldMax_congr fun j hj => e j (Nat.le_succ_of_le hj)) (e (n + 1) (Nat.le_refl _))

/-- The rows computed from a slot that holds list row `n` are chunk `n` of the block. -/
theorem rowMax_eq {X : S100000x128.Idx → F .f32} {I : S98x128.Idx → BitVec 32} {b n : ℕ} {g : S2x128x128.Idx → F .f32}
    (hg : Holds X I b n g) {y c : ℕ} (hy : y < 8) (hc : c < 128) : rowMax g b y c = outVal X I (8 * n + y) c := by
  refine foldMax_congr fun j hj => ?_
  rw [hg _ (by omega) _ hc, show (8 * n + y) / 8 = n by omega, show (8 * n + y) % 8 = y by omega]

/-- Writing chunk `n` out: one chunk more of the block is computed. -/
theorem done_step (L : grid0.Coords) {X : S100000x128.Idx → F .f32} {I : S98x128.Idx → BitVec 32} {b n m : ℕ} {g : S2x128x128.Idx → F .f32}
    (hg : Holds X I b n g) (hn : n < 98) (hm : m = 8) (f : S8x128.Idx → F .f32) {fo : S25088x128.Idx → F .f32} (hfo : Done L X I n fo)
    (o : Fin 2 → ℕ) (e : o = ![base L + 8 * n, 0]) (h : ∀ a, o a + S8x128.size a ≤ S25088x128.size a) :
    Done L X I (n + 1) ((outWin o h).view.write (Elt F) fo ((rV).view.read (Elt F) (rowsTo g b m f)) Finset.univ) := by
  subst e hm
  have hb : base L + 8 * n + 8 ≤ 25088 := h 0
  intro y hy c hc
  by_cases hlt : y < 8 * n
  · rw [← hfo y hlt c hc]
    refine View.write_of_not_mem (v := (outWin _ h).view) (Val := Elt F) _ _ _ ?_
    rw [mem_outWin]
    have : (oAt (base L + y) c 0).val = (base L + y) % 25088 := rfl
    omega
  · obtain ⟨z, rfl⟩ : ∃ z, y = 8 * n + z := ⟨y - 8 * n, by omega⟩
    have hz : z < 8 := by omega
    have e := outWin_emb h ⟨z, hz⟩ ⟨c, hc⟩
    rw [← rowMax_eq hg hz hc, ← Nat.add_assoc]
    refine (congrArg _ e.symm).trans ((View.write_emb_of_mem (v := (outWin _ h).view) (Val := Elt F) _ _ (Finset.mem_univ _)).trans ?_)
    refine (cast_eq _ _).trans ?_
    exact if_pos hz

section Step

variable (d : Fin nD) (L : grid0.Coords)

/-- The task's block of the output, held outright at `fo`. -/
def outIs (fo : S25088x128.Idx → F .f32) : sProp 𝕄 :=
  iprop((oV).view.loc (V d (cV L) (jV L)) ↦[(oV).view.setOn (Rect.unit (s := S25088x128) ![1568 * (L 1).val + 784 * (L 0).val, 0] ![784, 128] (base_inb L)).set]{fullShare} fo)

theorem outIs_eq (fo : S25088x128.Idx → F .f32) :
    (iprop((oV).view.loc (V d (cV L) (jV L)) ↦[(oV).view.setOn (Rect.unit (s := S25088x128) ![1568 * (L 1).val + 784 * (L 0).val, 0] ![784, 128] (base_inb L)).set]{fullShare} fo) : sProp 𝕄)
      = outIs d L fo := rfl

/-- A slot before the wait for list row `n`: its gather in flight, or, past the list's end, idle. -/
def slotState (X : S100000x128.Idx → F .f32) (I : S98x128.Idx → BitVec 32) (qx qi : PosShare TreeShare) (sem : DmaSem sig) (b n : ℕ) : sProp 𝕄 :=
  if n < 98 then inFlight d L X I qx qi sem b n else idle d L X I qx qi sem b

variable (O : CellTallies nD τ sig (HIx 1)) (W : Waits sig (HIx 1))

/-- What a task owes while it runs: the waits it has recorded are its own or at no handshake. -/
def owing : sProp 𝕄 := iprop(∃ W', ⌜∀ p ∈ W', p ∈ W ∨ p.2 = none⌝ ∗ owes (V d (cV L) (jV L)) O W')

omit [FloatOps F] in
theorem insert_ok {W W' : Waits sig (HIx 1)} (h : ∀ p ∈ W', p ∈ W ∨ p.2 = none) (sem : DmaSem sig) :
    ∀ p ∈ insert (SemLoc.dma sem, (default : HIx 1)) W', p ∈ W ∨ p.2 = none := fun p hp => by
  rcases Finset.mem_insert.mp hp with rfl | hp
  · exact .inr rfl
  · exact h p hp

omit [FloatOps F] in
/-- One wait more recorded. -/
theorem owing_insert (W' : Waits sig (HIx 1)) (sem : DmaSem sig) (h : ∀ p ∈ W', p ∈ W ∨ p.2 = none) :
    (owes (V d (cV L) (jV L)) O (insert (SemLoc.dma sem, (default : HIx 1)) W') : sProp 𝕄) ⊢ owing (F := F) d L O W := by
  unfold owing
  iintro HO
  iexists _
  isplitr
  · ipureintro; exact insert_ok h sem
  · iexact HO

/-- Whether another pair of chunks follows, as the conditions of the two halves decide it. -/
theorem cond1_lt (t : Fin k0_t1_loop.trips) : k0_cond1 t = 1#1 → 2 * (t.val + 1) < 98 := by revert t; decide
theorem cond1_not_lt (t : Fin k0_t1_loop.trips) : ¬ k0_cond1 t = 1#1 → ¬ 2 * (t.val + 1) < 98 := by revert t; decide
theorem cond2_lt (t : Fin k0_t1_loop.trips) : k0_cond2 t = 1#1 → 2 * (t.val + 1) + 1 < 98 := by revert t; decide
theorem cond2_not_lt (t : Fin k0_t1_loop.trips) : ¬ k0_cond2 t = 1#1 → ¬ 2 * (t.val + 1) + 1 < 98 := by revert t; decide

/-- One slot with what its half of a trip uses: the slot before the wait for list row `n`, the result rows' buffer, the block
    with its first `m` chunks computed, the write-out's semaphore at zero, and what is owed. -/
def half (X : S100000x128.Idx → F .f32) (I : S98x128.Idx → BitVec 32) (qx qi : PosShare TreeShare) (sem so : DmaSem sig) (b n m : ℕ) : sProp 𝕄 :=
  iprop(slotState d L X I qx qi sem b n
    ∗ (∃ f, (rV).view.loc (V d (cV L) (jV L)) ↦{fullShare} f)
    ∗ (∃ fo, ⌜Done L X I m fo⌝ ∗ outIs d L fo)
    ∗ semVal (V d (cV L) (jV L), SemLoc.dma so) 0
    ∗ owing d L O W)

theorem half_intro {X : S100000x128.Idx → F .f32} {I : S98x128.Idx → BitVec 32} {qx qi : PosShare TreeShare} {sem so : DmaSem sig} {b n m : ℕ}
    (f : S8x128.Idx → F .f32) (fo : S25088x128.Idx → F .f32) (hd : Done L X I m fo) :
    iprop(slotState d L X I qx qi sem b n ∗ ((rV).view.loc (V d (cV L) (jV L)) ↦{fullShare} f) ∗ outIs d L fo
      ∗ semVal (V d (cV L) (jV L), SemLoc.dma so) 0 ∗ owing d L O W) ⊢ half d L O W X I qx qi sem so b n m := by
  unfold half
  iintro ⟨Hs, Hr, Ho, H⟩
  isplitl [Hs]; · iexact Hs
  isplitl [Hr]; · iexists f; iexact Hr
  isplitl [Ho]
  · iexists fo
    isplitr
    · ipureintro; exact hd
    · iexact Ho
  iexact H

/-- The same, written out. -/
theorem half_eq {X : S100000x128.Idx → F .f32} {I : S98x128.Idx → BitVec 32} {qx qi : PosShare TreeShare} {sem so : DmaSem sig} {b n m : ℕ} :
    half d L O W X I qx qi sem so b n m = iprop(slotState d L X I qx qi sem b n
      ∗ (∃ f, (rV).view.loc (V d (cV L) (jV L)) ↦{fullShare} f)
      ∗ (∃ fo, ⌜Done L X I m fo⌝ ∗ outIs d L fo)
      ∗ semVal (V d (cV L) (jV L), SemLoc.dma so) 0
      ∗ owing d L O W) := rfl

/-- The same opened, at a row of the list: its gather is in flight. -/
theorem half_elim {X : S100000x128.Idx → F .f32} {I : S98x128.Idx → BitVec 32} {qx qi : PosShare TreeShare} {sem so : DmaSem sig} {b n m : ℕ} (h : n < 98) :
    half d L O W X I qx qi sem so b n m
      ⊢ iprop(inFlight d L X I qx qi sem b n
        ∗ (∃ f, (rV).view.loc (V d (cV L) (jV L)) ↦{fullShare} f)
        ∗ (∃ fo, ⌜Done L X I m fo⌝
          ∗ ((oV).view.loc (V d (cV L) (jV L)) ↦[(oV).view.setOn (Rect.unit (s := S25088x128) ![1568 * (L 1).val + 784 * (L 0).val, 0] ![784, 128] (base_inb L)).set]{fullShare} fo))
        ∗ semVal (V d (cV L) (jV L), SemLoc.dma so) 0
        ∗ ∃ W', ⌜∀ p ∈ W', p ∈ W ∨ p.2 = none⌝ ∗ owes (V d (cV L) (jV L)) O W') := by
  unfold half slotState outIs owing
  rw [if_pos h]

/-- The slot once its gather has been issued again, or once the list has no further row for it. -/
theorem slotState_of_lt {X : S100000x128.Idx → F .f32} {I : S98x128.Idx → BitVec 32} {qx qi : PosShare TreeShare} {sem : DmaSem sig} {b n : ℕ} (h : n < 98) :
    inFlight d L X I qx qi sem b n ⊢ slotState d L X I qx qi sem b n := by unfold slotState; rw [if_pos h]
theorem slotState_of_not_lt {X : S100000x128.Idx → F .f32} {I : S98x128.Idx → BitVec 32} {qx qi : PosShare TreeShare} {sem : DmaSem sig} {b n : ℕ} (h : ¬ n < 98) :
    idle d L X I qx qi sem b ⊢ slotState d L X I qx qi sem b n := by unfold slotState; rw [if_neg h]

set_option maxHeartbeats 4000000 in
/-- The first half of a trip: the chunk of slot 0. -/
theorem half0 (X : S100000x128.Idx → F .f32) (I : S98x128.Idx → BitVec 32) (hI : ∀ y, (I y).toNat < 100000)
    (qx qi : PosShare TreeShare) (v2 : BitVec 32) (t : Fin k0_t1_loop.trips) :
    iprop(Transfers.MayWaits (V d (cV L) (jV L)) (default : HIx 1) O
      ∗ half d L O W X I qx qi cc0_scratch3.sem cc0_scoped1.sem 0 (2 * t.val) (2 * t.val))
      ⊢ wp frame (wpE (defs₀ (F := F)) 𝒱₀ (V d (cV L) (jV L)) none) Set.univ
          (k0_part39 L xV (Memref.isWhole_whole _) pV (Memref.isWhole_whole _) oV (Memref.isWhole_whole _)
            iV (Memref.isWhole_whole _) gV (Memref.isWhole_whole _) rV (Memref.isWhole_whole _)
            cc0_scratch3 cc0_scratch4 cc0_scoped0 cc0_scoped1 cc0_scoped2 v2 0#32 1#32 t)
          fun _ => half d L O W X I qx qi cc0_scratch3.sem cc0_scoped1.sem 0 (2 * (t.val + 1)) (2 * t.val + 1) := by
  have ht : t.val < 49 := t.isLt
  have h0 := core_lt L
  have h1 := sub_lt L
  rw [k0_part39_eq_skeleton]
  unfold k0_part39_skel
  iintro ⟨#Hmw, H⟩
  ihave H' := (half_elim d L O W (show 2 * t.val < 98 by omega)) $$ H
  icases H' with ⟨Ha, ⟨%f, Hr⟩, ⟨%fo, %hfo, Ho⟩, Hs1, %W', %hW', HO⟩
  sl_exec
  iapply (await d L X I qx qi _ 0 (2 * t.val) _ _ O W' _) $$ [Ha HO]
  · isplitl [Ha]; · iexact Ha
    isplitl [HO]; · iexact HO
    iexact Hmw
  unfold landed
  iintro ⟨⟨⟨%g, %hg, Hg⟩, Hx, Hi⟩, Hs, HO⟩
  sl_exec
  sl_for (fun k _ => iprop(slotPts0 d L g ∗ ((rV).view.loc (V d (cV L) (jV L)) ↦{fullShare} rowsTo g 0 k f))) $$ [Hg Hr]
  case region =>
    intro k acc
    exact row0 d L g f v2 t k acc _ .rfl
  · rw [slotPts0_eq, show rowsTo g 0 0 f = f from funext fun _ => if_neg (Nat.not_lt_zero _)]
    isplitl [Hg] <;> iassumption
  iintro %_ ⟨Hg, Hr⟩
  sl_exec
  have hd : Done L X I (2 * t.val + 1) (half0.sl.Ho_w0 d L t f fo g) :=
    done_step L hg (by omega) rfl f hfo _ ((k0_off27_eq L t 0).trans (by simp [base]; omega)) _
  ihave Hg' := (Entails.of_eq (slotPts0_eq (F := F) d L g)) $$ Hg
  ihave Hidle := (idle_intro d L X I qx qi cc0_scratch3.sem 0 g) $$ [Hg' Hx Hi Hs]
  · isplitl [Hg']; · iexact Hg'
    isplitl [Hx]; · iexact Hx
    isplitl [Hi] <;> iassumption
  ihave HO' := (owing_insert d L O W _ ⟨3, _⟩ (insert_ok hW' cc0_scratch3.sem)) $$ HO
  ihave Ho' := (Entails.of_eq (outIs_eq d L _)) $$ Ho
  by_cases k0_h1 : k0_cond1 t = 1#1
  · sl_exec
    iapply (issue d L X I hI qx qi cc0_scratch3.sem 0 (2 * (t.val + 1)) _ rfl _ _ ((k0_off28_eq t).trans (by simp [Nat.mul_add])) _ _) $$ Hidle
    iintro Hfl
    ihave Hst := (slotState_of_lt d L (cond1_lt t k0_h1)) $$ Hfl
    sl_exec
    rw [wp_ret]
    imodintro
    iapply (half_intro d L O W _ _ hd)
    isplitl [Hst]; · iexact Hst
    isplitl [Hr]; · iexact Hr
    isplitl [Ho']; · iexact Ho'
    isplitl [Hs1]; · iexact Hs1
    iexact HO'
  · ihave Hst := (slotState_of_not_lt d L (cond1_not_lt t k0_h1)) $$ Hidle
    sl_exec
    rw [wp_ret]
    imodintro
    iapply (half_intro d L O W _ _ hd)
    isplitl [Hst]; · iexact Hst
    isplitl [Hr]; · iexact Hr
    isplitl [Ho']; · iexact Ho'
    isplitl [Hs1]; · iexact Hs1
    iexact HO'

/-- Before trip `t` of the outer loop: list rows `2 t` and `2 t + 1` on their way into the two slots, the chunks before them
    written out. -/
def inv (X : S100000x128.Idx → F .f32) (I : S98x128.Idx → BitVec 32) (qx qi : PosShare TreeShare) (t : ℕ) : sProp 𝕄 :=
  iprop(Transfers.MayWaits (V d (cV L) (jV L)) (default : HIx 1) O
    ∗ half d L O W X I qx.left qi.left cc0_scratch3.sem cc0_scoped1.sem 0 (2 * t) (2 * t)
    ∗ slotState d L X I qx.right qi.right cc0_scratch4.sem 1 (2 * t + 1)
    ∗ semVal (V d (cV L) (jV L), SemLoc.dma cc0_scoped2.sem) 0)

set_option maxHeartbeats 4000000 in
/-- A trip of the outer loop. -/
theorem trip (X : S100000x128.Idx → F .f32) (I : S98x128.Idx → BitVec 32) (hI : ∀ y, (I y).toNat < 100000)
    (qx qi : PosShare TreeShare) (v2 : BitVec 32) (t : Fin k0_t1_loop.trips) (a : BitVec 32) :
    inv d L O W X I qx qi t.val
      ⊢ wp frame (wpE (defs₀ (F := F)) 𝒱₀ (V d (cV L) (jV L)) none) Set.univ
          (k0_t1_body L xV (Memref.isWhole_whole _) pV (Memref.isWhole_whole _) oV (Memref.isWhole_whole _)
            iV (Memref.isWhole_whole _) gV (Memref.isWhole_whole _) rV (Memref.isWhole_whole _)
            cc0_scratch3 cc0_scratch4 cc0_scoped0 cc0_scoped1 cc0_scoped2 v2 t a)
          fun _ => inv d L O W X I qx qi (t.val + 1) := by
  have ht : t.val < 49 := t.isLt
  have h0 := core_lt L
  have h1 := sub_lt L
  unfold k0_t1_body inv
  rw [wp_bind]
  iintro ⟨#Hmw, H0, Hb, Hs2⟩
  ihave H1 := (half0 d L O W X I hI qx.left qi.left v2 t) $$ [H0]
  · isplitr; · iexact Hmw
    iexact H0
  iapply (wp_wand frame _ _) $$ H1
  iintro %_ H1
  ihave H2 := (Entails.of_eq (half_eq d L O W)) $$ H1
  icases H2 with ⟨Ha, Hr, Ho, Hs1, HO⟩
  ihave H := (Entails.of_eq (half_eq d L O W (so := cc0_scoped2.sem)).symm) $$ [Hb Hr Ho Hs2 HO]
  · isplitl [Hb]; · iexact Hb
    isplitl [Hr]; · iexact Hr
    isplitl [Ho]; · iexact Ho
    isplitl [Hs2] <;> iassumption
  ihave H' := (half_elim d L O W (show 2 * t.val + 1 < 98 by omega)) $$ H
  icases H' with ⟨Hb, ⟨%f, Hr⟩, ⟨%fo, %hfo, Ho⟩, Hs2, %W', %hW', HO⟩
  sl_exec
  iapply (await d L X I qx.right qi.right _ 1 (2 * t.val + 1) _ _ O W' _) $$ [Hb HO]
  · isplitl [Hb]; · iexact Hb
    isplitl [HO]; · iexact HO
    iexact Hmw
  unfold landed
  iintro ⟨⟨⟨%g, %hg, Hg⟩, Hx, Hi⟩, Hs, HO⟩
  sl_exec
  sl_for (fun k _ => iprop(slotPts1 d L g ∗ ((rV).view.loc (V d (cV L) (jV L)) ↦{fullShare} rowsTo g 1 k f))) $$ [Hg Hr]
  case region =>
    intro k acc
    exact row1 d L g f k acc _ .rfl
  · rw [slotPts1_eq, show rowsTo g 1 0 f = f from funext fun _ => if_neg (Nat.not_lt_zero _)]
    isplitl [Hg] <;> iassumption
  iintro %_ ⟨Hg, Hr⟩
  sl_exec
  have hd : Done L X I (2 * (t.val + 1)) (trip.sl.Ho_w0 d L t f fo g) :=
    done_step L hg (by omega) rfl f hfo _ ((k0_off27_eq L t 1).trans (by simp [base]; omega)) _
  ihave Hg' := (Entails.of_eq (slotPts1_eq (F := F) d L g)) $$ Hg
  ihave Hidle := (idle_intro d L X I qx.right qi.right cc0_scratch4.sem 1 g) $$ [Hg' Hx Hi Hs]
  · isplitl [Hg']; · iexact Hg'
    isplitl [Hx]; · iexact Hx
    isplitl [Hi] <;> iassumption
  ihave HO' := (owing_insert d L O W _ ⟨4, _⟩ (insert_ok hW' cc0_scratch4.sem)) $$ HO
  ihave Ho' := (Entails.of_eq (outIs_eq d L _)) $$ Ho
  by_cases k0_h2 : k0_cond2 t = 1#1
  · sl_exec
    iapply (issue d L X I hI qx.right qi.right cc0_scratch4.sem 1 (2 * (t.val + 1) + 1) _ rfl _ _ ((k0_off53_eq t).trans (by simp [Nat.mul_add])) _ _) $$ Hidle
    iintro Hfl
    ihave Hst := (slotState_of_lt d L (cond2_lt t k0_h2)) $$ Hfl
    sl_exec
    rw [wp_ret]
    imodintro
    isplitr; · iexact Hmw
    isplitl [Ha Hr Ho' Hs1 HO']
    · iapply (half_intro d L O W _ _ hd)
      isplitl [Ha]; · iexact Ha
      isplitl [Hr]; · iexact Hr
      isplitl [Ho']; · iexact Ho'
      isplitl [Hs1]; · iexact Hs1
      iexact HO'
    isplitl [Hst]; · iexact Hst
    iexact Hs2
  · ihave Hst := (slotState_of_not_lt d L (cond2_not_lt t k0_h2)) $$ Hidle
    sl_exec
    rw [wp_ret]
    imodintro
    isplitr; · iexact Hmw
    isplitl [Ha Hr Ho' Hs1 HO']
    · iapply (half_intro d L O W _ _ hd)
      isplitl [Ha]; · iexact Ha
      isplitl [Hr]; · iexact Hr
      isplitl [Ho']; · iexact Ho'
      isplitl [Hs1]; · iexact Hs1
      iexact HO'
    isplitl [Hst]; · iexact Hst
    iexact Hs2

end Step

end Cert.Proof.Pool

end
-- ==== Proof.Task.lean ====
/-
  A whole task: it fetches its 98 rows of the index list, starts the first two gathers, and runs the 49 trips of the outer
  loop, after which its block of the output holds, row by row, the maxima of the rows of `x` its list names.
-/
module

public import proofs.«01_k».proof.Proof.Trip

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The list a task fetches -/

/-- Entry `c` of row `n` of index block `w`, each coordinate taken modulo its axis. -/
def pAt (w n c : ℕ) : S32x98x128.Idx := fun
  | ⟨0, _⟩ => Fin.ofNat 32 w
  | ⟨1, _⟩ => Fin.ofNat 98 n
  | ⟨2, _⟩ => Fin.ofNat 128 c

/-- Block `w` of the index blocks, as a list. -/
def listOf (P : S32x98x128.Idx → BitVec 32) (w : ℕ) : S98x128.Idx → BitVec 32 := fun y => P (pAt w (y 0).val (y 1).val)

omit [FloatOps F] in
/-- The window of the index blocks a task fetches. -/
abbrev blockAt (o : Fin 3 → ℕ) (h : ∀ a, o a + S1x98x128.size a ≤ S32x98x128.size a) : Memref sig .scVector .hbm S98x128 .i32 :=
  ((pV).slice (Rect.unit (s := S32x98x128) o S1x98x128.size h) (fun _ => rfl)).squeeze S98x128 squeezes_S1x98x128_S98x128

omit [FloatOps F] in
/-- Fetched, it is the block's list. -/
theorem fetched (P : S32x98x128.Idx → BitVec 32) (fs : S98x128.Idx → BitVec 32) (w : ℕ) (o : Fin 3 → ℕ) (e : o = ![w, 0, 0])
    (h : ∀ a, o a + S1x98x128.size a ≤ S32x98x128.size a) :
    (iV).view.write (Elt F) fs ((blockAt o h).view.read (Elt F) P) Finset.univ = listOf P w := by
  subst e
  refine (View.write_whole_univ _ _ _).trans ?_
  funext y
  refine (View.read_apply _ _).trans ((cast_eq _ _).trans ?_)
  have er : Shape.reshapeEquiv (Shape.Squeezes.numel_eq squeezes_S1x98x128_S98x128) y
      = (ValueIdx.ix3 (0 : Fin 1) (y 0) (y 1) : S1x98x128.Idx) := Shape.reshapeEquiv_eq_of_rowMajor _ (by
    rw [Shape.rowMajor_val_two, Shape.rowMajor_val_three]; simp [ValueIdx.ix3])
  have h0 : w + 1 ≤ 32 := h 0
  have y0 : (y 0).val < 98 := (y 0).isLt
  have y1 : (y 1).val < 128 := (y 1).isLt
  show P ((Rect.unit (s := S32x98x128) ![w, 0, 0] S1x98x128.size h).emb (Shape.reshapeEquiv _ y)) = P _
  rw [er]
  congr 1
  funext a
  apply Fin.ext
  match a with
  | ⟨0, _⟩ => show w + 1 * 0 = w % 32; omega
  | ⟨1, _⟩ => show 0 + 1 * (y 0).val = (y 0).val % 98; omega
  | ⟨2, _⟩ => show 0 + 1 * (y 1).val = (y 1).val % 128; omega

/-- The block a task fetches. -/
def worker (L : grid0.Coords) : ℕ := 2 * (L 1).val + (L 0).val

section Step

variable (d : Fin nD) (L : grid0.Coords)

omit [FloatOps F] in
theorem slotSet_compl : (Finset.univ \ slotSet 0 : Finset S2x128x128.Idx) = slotSet 1 := by
  ext y
  have hy : (y 0).val < 2 := (y 0).isLt
  rw [Finset.mem_sdiff, mem_slotSet, mem_slotSet]
  constructor
  · rintro ⟨_, h⟩; omega
  · intro h; exact ⟨Finset.mem_univ _, by omega⟩

omit [FloatOps F] in
/-- The slots' buffer whole is its two slots. -/
theorem slots_split (g : S2x128x128.Idx → F .f32) :
    ((gV).view.loc (V d (cV L) (jV L)) ↦{fullShare} g : sProp 𝕄) ⊢ iprop(slotIs d L 0 g ∗ slotIs d L 1 g) := by
  unfold slotIs
  rw [← slotSet_compl]
  exact (pointsTo_split_subset (Finset.subset_univ (slotSet 0))).1

omit [FloatOps F] in
theorem slots_join (g g' : S2x128x128.Idx → F .f32) :
    iprop(slotIs d L 0 g ∗ slotIs d L 1 g') ⊢ (iprop(∃ f, (gV).view.loc (V d (cV L) (jV L)) ↦{fullShare} f) : sProp 𝕄) := by
  let f : S2x128x128.Idx → F .f32 := fun y => if (y 0).val = 0 then g y else g' y
  have e0 : slotIs (F := F) d L 0 g = slotIs d L 0 f := pointsTo_congr fun y hy => (if_pos (mem_slotSet.mp hy)).symm
  have e1 : slotIs (F := F) d L 1 g' = slotIs d L 1 f := pointsTo_congr fun y hy =>
    (if_neg (fun h => absurd (h.symm.trans (mem_slotSet.mp hy)) (by decide))).symm
  rw [e0, e1]
  refine Entails.trans ?_ (exists_intro f)
  unfold slotIs
  rw [← slotSet_compl]
  exact (pointsTo_split_subset (Finset.subset_univ (slotSet 0))).2

variable (O : CellTallies nD τ sig (HIx 1)) (W : Waits sig (HIx 1))

/-- The loop makes 49 trips. -/
theorem trips_eq : Scf.trips k0_t1_loop.lb k0_t1_loop.ub k0_t1_loop.st = 49 := by decide

/-- After the last trip nothing is in flight and the whole block is computed. -/
theorem inv_end {X : S100000x128.Idx → F .f32} {I : S98x128.Idx → BitVec 32} {qx qi : PosShare TreeShare} :
    inv d L O W X I qx qi 49
      ⊢ iprop(((∃ g, slotIs d L 0 g) ∗ ((xV).view.loc (V d (cV L) (jV L)) ↦{qx.left} X) ∗ ((iV).view.loc (V d (cV L) (jV L)) ↦{qi.left} I)
          ∗ semVal (V d (cV L) (jV L), SemLoc.dma cc0_scratch3.sem) 0)
        ∗ ((∃ g, slotIs d L 1 g) ∗ ((xV).view.loc (V d (cV L) (jV L)) ↦{qx.right} X) ∗ ((iV).view.loc (V d (cV L) (jV L)) ↦{qi.right} I)
          ∗ semVal (V d (cV L) (jV L), SemLoc.dma cc0_scratch4.sem) 0)
        ∗ (∃ f, (rV).view.loc (V d (cV L) (jV L)) ↦{fullShare} f)
        ∗ (∃ fo, ⌜Done L X I 98 fo⌝ ∗ outIs d L fo)
        ∗ semVal (V d (cV L) (jV L), SemLoc.dma cc0_scoped1.sem) 0
        ∗ semVal (V d (cV L) (jV L), SemLoc.dma cc0_scoped2.sem) 0
        ∗ owing d L O W) := by
  unfold inv half slotState idle
  rw [if_neg (by decide), if_neg (by decide)]
  iintro ⟨-, ⟨Ha, Hr, Ho, Hs1, HO⟩, Hb, Hs2⟩
  isplitl [Ha]; · iexact Ha
  isplitl [Hb]; · iexact Hb
  isplitl [Hr]; · iexact Hr
  isplitl [Ho]; · iexact Ho
  isplitl [Hs1]; · iexact Hs1
  isplitl [Hs2] <;> iassumption

set_option maxHeartbeats 4000000 in
/-- The task at core `L 0`, subcore `L 1`, over its resources: every word of the index blocks a row of `x`, it ends with its
    block of the output computed and everything else handed back. -/
theorem task (X : S100000x128.Idx → F .f32) (P : S32x98x128.Idx → BitVec 32) (hP : ∀ z, (P z).toNat < 100000)
    (qx qp : PosShare TreeShare) (fo : S25088x128.Idx → F .f32) (fs : S98x128.Idx → BitVec 32) (g : S2x128x128.Idx → F .f32) (f : S8x128.Idx → F .f32) :
    iprop(Transfers.MayWaits (V d (cV L) (jV L)) (default : HIx 1) O
      ∗ ((xV).view.loc (V d (cV L) (jV L)) ↦{qx} X)
      ∗ ((pV).view.loc (V d (cV L) (jV L)) ↦{qp} P)
      ∗ outIs d L fo
      ∗ ((iV).view.loc (V d (cV L) (jV L)) ↦{fullShare} fs)
      ∗ ((gV).view.loc (V d (cV L) (jV L)) ↦{fullShare} g)
      ∗ ((rV).view.loc (V d (cV L) (jV L)) ↦{fullShare} f)
      ∗ semVal (V d (cV L) (jV L), SemLoc.dma cc0_scratch3.sem) 0
      ∗ semVal (V d (cV L) (jV L), SemLoc.dma cc0_scratch4.sem) 0
      ∗ semVal (V d (cV L) (jV L), SemLoc.dma cc0_scoped0.sem) 0
      ∗ semVal (V d (cV L) (jV L), SemLoc.dma cc0_scoped1.sem) 0
      ∗ semVal (V d (cV L) (jV L), SemLoc.dma cc0_scoped2.sem) 0
      ∗ owes (V d (cV L) (jV L)) O W)
      ⊢ wp frame (wpE (defs₀ (F := F)) 𝒱₀ (V d (cV L) (jV L)) none) Set.univ
          (cc0__body L xV (Memref.isWhole_whole _) pV (Memref.isWhole_whole _) oV (Memref.isWhole_whole _)
            iV (Memref.isWhole_whole _) gV (Memref.isWhole_whole _) rV (Memref.isWhole_whole _)
            cc0_scratch3 cc0_scratch4 cc0_scoped0 cc0_scoped1 cc0_scoped2)
          fun _ => iprop(((xV).view.loc (V d (cV L) (jV L)) ↦{qx} X)
            ∗ ((pV).view.loc (V d (cV L) (jV L)) ↦{qp} P)
            ∗ (∃ fo, ⌜Done L X (listOf P (worker L)) 98 fo⌝ ∗ outIs d L fo)
            ∗ (∃ f, (iV).view.loc (V d (cV L) (jV L)) ↦{fullShare} f)
            ∗ (∃ f, (gV).view.loc (V d (cV L) (jV L)) ↦{fullShare} f)
            ∗ (∃ f, (rV).view.loc (V d (cV L) (jV L)) ↦{fullShare} f)
            ∗ semVal (V d (cV L) (jV L), SemLoc.dma cc0_scratch3.sem) 0
            ∗ semVal (V d (cV L) (jV L), SemLoc.dma cc0_scratch4.sem) 0
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ owing d L O W) := by
  have h0 := core_lt L
  have h1 := sub_lt L
  rw [cc0__body_eq_skeleton]
  unfold cc0__body_skel
  iintro ⟨#Hmw, Hx, Hp, Ho, Hi, Hg, Hr, HsA, HsB, Hs0, Hs1, Hs2, HO⟩
  sl_exec
  ihave Hi' := (Entails.of_eq (show ((iV).view.loc (V d (cV L) (jV L)) ↦{fullShare} View.write (Elt F) (iV).view fs (task.sl.dma0 L P) Finset.univ : sProp 𝕄)
      = (iV).view.loc (V d (cV L) (jV L)) ↦{fullShare} listOf P (worker L) from
    congrArg (fun q => ((iV).view.loc (V d (cV L) (jV L)) ↦{fullShare} q : sProp 𝕄)) (fetched (F := F) P fs (worker L) _ (k0_off1_eq L) _))) $$ Hi
  ihave Hi2 := (pointsTo_share (PosShare.mem_left_op_right fullShare)).1 $$ Hi'
  icases Hi2 with ⟨Hi0, Hi1⟩
  ihave Hx2 := (pointsTo_share (PosShare.mem_left_op_right qx)).1 $$ Hx
  icases Hx2 with ⟨Hx0, Hx1⟩
  ihave Hg2 := (slots_split d L g) $$ Hg
  icases Hg2 with ⟨Hg0, Hg1⟩
  ihave HA := (idle_intro d L X (listOf P (worker L)) qx.left fullShare.left cc0_scratch3.sem 0 g) $$ [Hg0 Hx0 Hi0 HsA]
  · isplitl [Hg0]; · iexact Hg0
    isplitl [Hx0]; · iexact Hx0
    isplitl [Hi0] <;> iassumption
  ihave HB := (idle_intro d L X (listOf P (worker L)) qx.right fullShare.right cc0_scratch4.sem 1 g) $$ [Hg1 Hx1 Hi1 HsB]
  · isplitl [Hg1]; · iexact Hg1
    isplitl [Hx1]; · iexact Hx1
    isplitl [Hi1] <;> iassumption
  iapply (issue d L X (listOf P (worker L)) (fun _ => hP _) qx.left fullShare.left cc0_scratch3.sem 0 (2 * 0) _ rfl _ _ rfl _ _) $$ HA
  iintro HA
  sl_exec
  iapply (issue d L X (listOf P (worker L)) (fun _ => hP _) qx.right fullShare.right cc0_scratch4.sem 1 (2 * 0 + 1) _ rfl _ _ rfl _ _) $$ HB
  iintro HB
  ihave HA' := (slotState_of_lt d L (by decide)) $$ HA
  ihave HB' := (slotState_of_lt d L (by decide)) $$ HB
  ihave HO' := (owing_insert d L O W _ ⟨2, _⟩ (fun _ hp => .inl hp)) $$ HO
  ihave Hh := (half_intro d L O W (m := 2 * 0) (so := cc0_scoped1.sem) f fo (fun y hy => absurd hy (Nat.not_lt_zero y))) $$ [HA' Hr Ho Hs1 HO']
  · isplitl [HA']; · iexact HA'
    isplitl [Hr]; · iexact Hr
    isplitl [Ho]; · iexact Ho
    isplitl [Hs1] <;> iassumption
  sl_exec
  sl_for (fun t _ => inv d L O W X (listOf P (worker L)) qx fullShare t) $$ [Hh HB' Hs2]
  case region =>
    intro t acc
    exact trip d L O W X (listOf P (worker L)) (fun _ => hP _) qx fullShare _ t acc
  · unfold inv
    isplitr; · iexact Hmw
    isplitl [Hh]; · iexact Hh
    isplitl [HB'] <;> iassumption
  iintro %_ H
  ihave H0 := (Entails.of_eq (congrArg (inv d L O W X (listOf P (worker L)) qx fullShare) trips_eq)) $$ H
  ihave H' := (inv_end d L O W) $$ H0
  icases H' with ⟨⟨⟨%ga, Hga⟩, Hx0, Hi0, HsA⟩, ⟨⟨%gb, Hgb⟩, Hx1, Hi1, HsB⟩, Hr, Ho, Hs1, Hs2, HO⟩
  sl_exec
  rw [wp_ret]
  imodintro
  isplitl [Hx0 Hx1]
  · iapply (pointsTo_share (PosShare.mem_left_op_right qx)).2
    isplitl [Hx0] <;> iassumption
  isplitl [Hp]; · iexact Hp
  isplitl [Ho]; · iexact Ho
  isplitl [Hi0 Hi1]
  · iexists _
    iapply (pointsTo_share (PosShare.mem_left_op_right fullShare)).2
    isplitl [Hi0] <;> iassumption
  isplitl [Hga Hgb]
  · iapply (slots_join d L ga gb)
    isplitl [Hga] <;> iassumption
  isplitl [Hr]; · iexact Hr
  isplitl [HsA]; · iexact HsA
  isplitl [HsB]; · iexact HsB
  isplitl [Hs0]; · iexact Hs0
  isplitl [Hs1]; · iexact Hs1
  isplitl [Hs2]; · iexact Hs2
  iexact HO

end Step

end Cert.Proof.Pool

end
-- ==== Proof.Deal.lean ====
/-
  How the call's arrays are dealt to its thirty-two tasks and gathered again: `x` and the index blocks by shares, the output
  by blocks of 784 rows, each coming back at the maxima its task computed.
-/
module

public import proofs.«01_k».proof.Proof.Task
public import Idealize.ShloMosaic.Lib.ShareLeaves

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.SparseCore.Cfg (Pay ownBufs ownSems0 ownCells ownRefs mem_ownCells)
open Idealize.ShloMosaic.ShareLeaves (leaf pointsTo_leaves)

/-! ## What the whole output is -/

/-- The output, from all of `x` and all the index blocks: block `w` holds the 784 rows of task `w`. -/
def outAll (X : S100000x128.Idx → F .f32) (P : S32x98x128.Idx → BitVec 32) : S25088x128.Idx → F .f32 :=
  fun y => outVal X (listOf P ((y 0).val / 784)) ((y 0).val % 784) (y 1).val

/-- The output's indices of block `w`. -/
def blk (w : ℕ) : Finset S25088x128.Idx := Finset.univ.filter fun y => (y 0).val / 784 = w
/-- The output's indices of the blocks of core `c`: every other block. -/
def coreRows (c : ℕ) : Finset S25088x128.Idx := Finset.univ.filter fun y => (y 0).val / 784 % 2 = c

omit [FloatOps F] in
theorem mem_blk {w : ℕ} {y : S25088x128.Idx} : y ∈ blk w ↔ (y 0).val / 784 = w := by simp [blk]
omit [FloatOps F] in
theorem mem_coreRows {c : ℕ} {y : S25088x128.Idx} : y ∈ coreRows c ↔ (y 0).val / 784 % 2 = c := by simp [coreRows]

omit [FloatOps F] in
theorem blk_disjoint {w w' : ℕ} (h : w ≠ w') : Disjoint (blk w) (blk w') :=
  Finset.disjoint_left.mpr fun _ hy hy' => h ((mem_blk.mp hy).symm.trans (mem_blk.mp hy'))
omit [FloatOps F] in
theorem coreRows_disjoint {c c' : ℕ} (h : c ≠ c') : Disjoint (coreRows c) (coreRows c') :=
  Finset.disjoint_left.mpr fun _ hy hy' => h ((mem_coreRows.mp hy).symm.trans (mem_coreRows.mp hy'))

omit [FloatOps F] in
/-- A core's indices are its sixteen tasks' blocks. -/
theorem coreRows_eq {c : ℕ} (hc : c < 2) : (Finset.univ : Finset (Fin 16)).biUnion (fun s => blk (2 * s.val + c)) = coreRows c := by
  ext y
  have hy : (y 0).val < 25088 := (y 0).isLt
  rw [Finset.mem_biUnion, mem_coreRows]
  constructor
  · rintro ⟨s, -, h⟩
    rw [mem_blk] at h; omega
  · intro h
    exact ⟨⟨(y 0).val / 784 / 2, by omega⟩, Finset.mem_univ _, mem_blk.mpr (by show (y 0).val / 784 = 2 * ((y 0).val / 784 / 2) + c; omega)⟩

omit [FloatOps F] in
/-- The two cores' indices are all of the output. -/
theorem univ_eq : (Finset.univ : Finset (Fin 2)).biUnion (fun c => coreRows c.val) = Finset.univ := by
  ext y
  rw [Finset.mem_biUnion]
  exact ⟨fun _ => Finset.mem_univ _, fun _ => ⟨⟨(y 0).val / 784 % 2, by omega⟩, Finset.mem_univ _, mem_coreRows.mpr rfl⟩⟩

omit [FloatOps F] in
/-- A task's own window of the output is its block. -/
theorem window_eq (L : grid0.Coords) :
    (oV).view.setOn (Rect.unit (s := S25088x128) ![1568 * (L 1).val + 784 * (L 0).val, 0] ![784, 128] (base_inb L)).set = blk (worker L) := by
  have h0 := core_lt L
  refine (show _ = (Rect.unit (s := S25088x128) ![1568 * (L 1).val + 784 * (L 0).val, 0] ![784, 128] (base_inb L)).set from Finset.map_refl).trans ?_
  ext y
  rw [Rect.mem_set_unit, mem_blk]
  constructor
  · intro hy
    have h := hy 0
    have h' : 1568 * (L 1).val + 784 * (L 0).val ≤ (y 0).val ∧ (y 0).val < 1568 * (L 1).val + 784 * (L 0).val + 784 := h
    show _ = 2 * (L 1).val + (L 0).val
    omega
  · intro hy a
    have h' : (y 0).val / 784 = 2 * (L 1).val + (L 0).val := hy
    have h1 : (y 1).val < 128 := (y 1).isLt
    match a with
    | ⟨0, _⟩ => show 1568 * (L 1).val + 784 * (L 0).val ≤ (y 0).val ∧ (y 0).val < 1568 * (L 1).val + 784 * (L 0).val + 784; omega
    | ⟨1, _⟩ => show 0 ≤ (y 1).val ∧ (y 1).val < 0 + 128; omega

/-- A task's block computed is the whole output's block. -/
theorem done_all {L : grid0.Coords} {X : S100000x128.Idx → F .f32} {P : S32x98x128.Idx → BitVec 32} {fo : S25088x128.Idx → F .f32}
    (h : Done L X (listOf P (worker L)) 98 fo) : ∀ y ∈ blk (worker L), fo y = outAll X P y := by
  intro y hy
  have hw : (y 0).val / 784 = worker L := mem_blk.mp hy
  have h0 : (y 0).val < 25088 := (y 0).isLt
  have h1 : (y 1).val < 128 := (y 1).isLt
  have e : oAt (base L + (y 0).val % 784) (y 1).val = y := by
    have hb : base L + (y 0).val % 784 = (y 0).val := by
      have : base L = 784 * worker L := by unfold base worker; omega
      omega
    rw [hb]
    funext a
    match a with
    | ⟨0, _⟩ => exact Fin.ext (Nat.mod_eq_of_lt h0)
    | ⟨1, _⟩ => exact Fin.ext (Nat.mod_eq_of_lt h1)
  have := h ((y 0).val % 784) (by omega) (y 1).val h1
  rw [e] at this
  rw [this]; unfold outAll; rw [hw]

/-! ## The arrays the call takes and the shares its tasks read -/

abbrev xLoc (d : Dev nD) : Loc nD τ sig := (SparseCore.T d).loc main_arg0
abbrev aLoc (d : Dev nD) : Loc nD τ sig := (SparseCore.T d).loc main_arg1
abbrev pLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

omit [FloatOps F] in
theorem nCore_zero : (K (F := F)).nCore 0 = 2 := rfl
omit [FloatOps F] in
theorem nSub_zero : (K (F := F)).nSub 0 = 16 := rfl

/-- Core `c`'s share of a read-only array, and of that its subcore `s`'s. -/
abbrev coreSh (c : Fin 2) : PosShare TreeShare := leaf 1 fullShare c
abbrev taskSh (c : Fin 2) (s : Fin 16) : PosShare TreeShare := leaf 4 (coreSh c) s

/-- The index blocks: the pools, padded by 88 pools of zeros, in the order of the tasks' lists. -/
def blocksOf (p : S25000x16.Idx → BitVec 32) : S32x98x128.Idx → BitVec 32 :=
  shapeCast S32x98x128 (pad S25088x16 ![0, 0] ![88, 0] ![0, 0] p (constantI S_ 32 0#32) pads_S25000x16_S25088x16_0880_000 h_S_) shapeCasts_S25088x16_S32x98x128

omit [FloatOps F] in
/-- Every word of the index blocks is one of the pools' or zero. -/
theorem blocksOf_lt (p : S25000x16.Idx → BitVec 32) (h : ∀ j, (p j).toNat < 100000) : ∀ z, (blocksOf p z).toNat < 100000 := by
  intro z
  unfold blocksOf shapeCast pad
  split
  · exact h _
  · show (0#32 : BitVec 32).toNat < 100000; decide

variable (m : (ℓ : Loc nD τ sig) → Buf (Elt F) ℓ)

/-- The index blocks, and the output, of a launch memory. -/
def P0 (d : Dev nD) : S32x98x128.Idx → BitVec 32 := blocksOf (m (aLoc d))
def O0 (d : Dev nD) : S25088x128.Idx → F .f32 := outAll (m (xLoc d)) (P0 m d)

abbrev xPts (d : Dev nD) (q : PosShare TreeShare) : sProp 𝕄 := xLoc d ↦{q} m (xLoc d)
abbrev pPts (d : Dev nD) (q : PosShare TreeShare) : sProp 𝕄 := pLoc d ↦{q} P0 m d
abbrev oPts (d : Dev nD) (I : Finset S25088x128.Idx) (f : S25088x128.Idx → F .f32) : sProp 𝕄 := oLoc d ↦[I]{fullShare} f

/-- What the call's handshakes carry: `x` and the index blocks at a share, the output's rows at what they held before
    and, on the way back, at the maxima. -/
def pay : (K (F := F)).Pay (nD := nD) (Val := Elt F) (Name := ℕ) (U := UU) where
  st := fun q d c => match q with
    | 0 => iprop(xPts m d (coreSh (Fin.cast nCore_zero c)) ∗ pPts m d (coreSh (Fin.cast nCore_zero c)) ∗ oPts d (coreRows c.val) (m (oLoc d)))
  dn := fun q d c => match q with
    | 0 => iprop(xPts m d (coreSh (Fin.cast nCore_zero c)) ∗ pPts m d (coreSh (Fin.cast nCore_zero c)) ∗ oPts d (coreRows c.val) (O0 m d))
  go := fun q d c i => match q with
    | 0 => iprop(xPts m d (taskSh (Fin.cast nCore_zero c) (Fin.cast nSub_zero i)) ∗ pPts m d (taskSh (Fin.cast nCore_zero c) (Fin.cast nSub_zero i))
        ∗ oPts d (blk (2 * i.val + c.val)) (m (oLoc d)))
  td := fun q d c i => match q with
    | 0 => iprop(xPts m d (taskSh (Fin.cast nCore_zero c) (Fin.cast nSub_zero i)) ∗ pPts m d (taskSh (Fin.cast nCore_zero c) (Fin.cast nSub_zero i))
        ∗ oPts d (blk (2 * i.val + c.val)) (O0 m d))
  x := fun _ _ => iprop(emp)

instance pay_storable : (pay (F := F) m).IsStorable where
  st q d c := match q with
    | 0 => (inferInstance : BI.Storable (upEmb : UEmb _ 𝕄)
      iprop(xPts m d (coreSh (Fin.cast nCore_zero c)) ∗ pPts m d (coreSh (Fin.cast nCore_zero c)) ∗ oPts d (coreRows c.val) (m (oLoc d))))
  dn q d c := match q with
    | 0 => (inferInstance : BI.Storable (upEmb : UEmb _ 𝕄)
      iprop(xPts m d (coreSh (Fin.cast nCore_zero c)) ∗ pPts m d (coreSh (Fin.cast nCore_zero c)) ∗ oPts d (coreRows c.val) (O0 m d)))
  go q d c i := match q with
    | 0 => (inferInstance : BI.Storable (upEmb : UEmb _ 𝕄)
      iprop(xPts m d (taskSh (Fin.cast nCore_zero c) (Fin.cast nSub_zero i)) ∗ pPts m d (taskSh (Fin.cast nCore_zero c) (Fin.cast nSub_zero i))
        ∗ oPts d (blk (2 * i.val + c.val)) (m (oLoc d))))
  td q d c i := match q with
    | 0 => (inferInstance : BI.Storable (upEmb : UEmb _ 𝕄)
      iprop(xPts m d (taskSh (Fin.cast nCore_zero c) (Fin.cast nSub_zero i)) ∗ pPts m d (taskSh (Fin.cast nCore_zero c) (Fin.cast nSub_zero i))
        ∗ oPts d (blk (2 * i.val + c.val)) (O0 m d)))

/-! ## The split of a core's resources among its tasks, and of the arrays among the cores -/

omit [FloatOps F] in
theorem x_tasks (d : Dev nD) (c : Fin 2) : (xPts m d (coreSh c) : sProp 𝕄) = bigSep Finset.univ fun s : Fin 16 => xPts m d (taskSh c s) :=
  pointsTo_leaves Finset.univ _ 4 (coreSh c)
omit [FloatOps F] in
theorem p_tasks (d : Dev nD) (c : Fin 2) : (pPts m d (coreSh c) : sProp 𝕄) = bigSep Finset.univ fun s : Fin 16 => pPts m d (taskSh c s) :=
  pointsTo_leaves Finset.univ _ 4 (coreSh c)
omit [FloatOps F] in
theorem o_tasks (d : Dev nD) {c : ℕ} (hc : c < 2) (f : S25088x128.Idx → F .f32) :
    (oPts d (coreRows c) f : sProp 𝕄) = bigSep Finset.univ fun s : Fin 16 => oPts d (blk (2 * s.val + c)) f := by
  unfold oPts
  rw [← coreRows_eq hc]
  exact pointsTo_biUnion Finset.univ (ℓ := oLoc d) (fun s : Fin 16 => blk (2 * s.val + c))
    fun s _ s' _ h => blk_disjoint fun e => h (Fin.ext (by omega))

omit [FloatOps F] in
theorem x_cores (d : Dev nD) : (xPts m d fullShare : sProp 𝕄) = bigSep Finset.univ fun c : Fin 2 => xPts m d (coreSh c) :=
  pointsTo_leaves Finset.univ _ 1 fullShare
omit [FloatOps F] in
theorem p_cores (d : Dev nD) : (pPts m d fullShare : sProp 𝕄) = bigSep Finset.univ fun c : Fin 2 => pPts m d (coreSh c) :=
  pointsTo_leaves Finset.univ _ 1 fullShare
omit [FloatOps F] in
theorem o_cores (d : Dev nD) (f : S25088x128.Idx → F .f32) :
    (oPts d Finset.univ f : sProp 𝕄) = bigSep Finset.univ fun c : Fin 2 => oPts d (coreRows c.val) f := by
  unfold oPts
  rw [← univ_eq]
  exact pointsTo_biUnion Finset.univ (ℓ := oLoc d) (fun c : Fin 2 => coreRows c.val)
    fun c _ c' _ h => coreRows_disjoint fun e => h (Fin.ext e)

/-- A core's three resources are its sixteen tasks'. -/
theorem core_tasks (d : Dev nD) (c : Fin 2) (f : S25088x128.Idx → F .f32) :
    (iprop(xPts m d (coreSh c) ∗ pPts m d (coreSh c) ∗ oPts d (coreRows c.val) f) : sProp 𝕄)
      = bigSep Finset.univ fun s : Fin 16 => iprop(xPts m d (taskSh c s) ∗ pPts m d (taskSh c s) ∗ oPts d (blk (2 * s.val + c.val)) f) := by
  rw [bigSep_sep', bigSep_sep', ← x_tasks, ← p_tasks, ← o_tasks d c.isLt]

/-- The three arrays are the two cores'. -/
theorem all_cores (d : Dev nD) (f : S25088x128.Idx → F .f32) :
    (iprop(xPts m d fullShare ∗ pPts m d fullShare ∗ oPts d Finset.univ f) : sProp 𝕄)
      = bigSep Finset.univ fun c : Fin 2 => iprop(xPts m d (coreSh c) ∗ pPts m d (coreSh c) ∗ oPts d (coreRows c.val) f) := by
  rw [bigSep_sep', bigSep_sep', ← x_cores, ← p_cores, ← o_cores]

/-- A core hands its tasks what they take and has its results from theirs. -/
theorem vecSplit : (K (F := F)).VecSplit' (pay m) 0 := by
  intro d c
  have e (f : S25088x128.Idx → F .f32) := core_tasks (F := F) m d (Fin.cast nCore_zero c) f
  have hst : (pay m).st 0 d c = bigSep Finset.univ fun i : Fin ((K (F := F)).nSub 0) => (pay m).go 0 d c i := e (m (oLoc d))
  have hdn : (bigSep Finset.univ fun i : Fin ((K (F := F)).nSub 0) => (pay m).td 0 d c i) = (pay m).dn 0 d c := (e (O0 m d)).symm
  rw [hst, hdn]
  iintro H
  imodintro
  isplitl [H]; · iexact H
  iintro H; iexact H

theorem st_eq (d : Dev nD) : (bigSep Finset.univ fun c : Fin ((K (F := F)).nCore 0) => (pay m).st 0 d c)
    = iprop(xPts m d fullShare ∗ pPts m d fullShare ∗ oPts d Finset.univ (m (oLoc d))) := (all_cores m d _).symm
theorem dn_eq (d : Dev nD) : (bigSep Finset.univ fun c : Fin ((K (F := F)).nCore 0) => (pay m).dn 0 d c)
    = iprop(xPts m d fullShare ∗ pPts m d fullShare ∗ oPts d Finset.univ (O0 m d)) := (all_cores m d _).symm

end Cert.Proof.Pool

end
-- ==== Proof.Launch.lean ====
/-
  The call's obligation to the launch: on every subcore of the grid, from the payload of its start and the subcore's own
  buffers and counters, the task runs and brings back the payload of its end.
-/
module

public import proofs.«01_k».proof.Proof.Deal

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.SparseCore.Cfg (Pay ownBufs ownSems0 ownCells ownRefs mem_ownCells)
open Idealize.ShloMosaic.ShareLeaves (leaf)

/-- The facts of the call the launch theorem asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## A subcore's own buffers and counters -/

section Own

variable (d : Dev nD) (L : grid0.Coords)

/-- A counter of the subcore the task runs on. -/
abbrev cell (s : SemLoc sig) : GSem nD τ sig := (V d (cV L) (jV L), s)

omit [FloatOps F] in
theorem cell_ne {s s' : SemLoc sig} (h : s ≠ s') : cell d L s ≠ cell d L s' := fun e => h (Prod.mk.inj e).2

omit [FloatOps F] in
theorem cell_own {s : SemLoc sig} (h : s.isScoped .scVector = true) : cell d L s ∈ ownCells (V d (cV L) (jV L)) := mem_ownCells.mpr ⟨rfl, h⟩

abbrev sA : SemLoc sig := .dma cc0_scratch3.sem
abbrev sB : SemLoc sig := .dma cc0_scratch4.sem
abbrev sC : SemLoc sig := .dma cc0_scoped0.sem
abbrev sD : SemLoc sig := .dma cc0_scoped1.sem
abbrev sE : SemLoc sig := .dma cc0_scoped2.sem

/-- The subcore's counters other than the task's five. -/
abbrev otherCells : Finset (GSem nD τ sig) :=
  (((((ownCells (V d (cV L) (jV L))).erase (cell d L sA)).erase (cell d L sB)).erase (cell d L sC)).erase (cell d L sD)).erase (cell d L sE)

omit [FloatOps F] in
theorem ownSems0_V :
    (ownSems0 (V d (cV L) (jV L)) : sProp 𝕄)
      = iprop(semVal (cell d L sA) 0 ∗ semVal (cell d L sB) 0 ∗ semVal (cell d L sC) 0 ∗ semVal (cell d L sD) 0 ∗ semVal (cell d L sE) 0
          ∗ bigSep (otherCells d L) fun g => semVal g 0) := by
  have hA := cell_own d L (s := sA) (by decide)
  have hB := cell_own d L (s := sB) (by decide)
  have hC := cell_own d L (s := sC) (by decide)
  have hD := cell_own d L (s := sD) (by decide)
  have hE := cell_own d L (s := sE) (by decide)
  unfold SparseCore.Cfg.ownSems0
  rw [SparseCore.bigSep_erase' hA,
    SparseCore.bigSep_erase' (Finset.mem_erase.mpr ⟨cell_ne d L (s := sB) (s' := sA) (by decide), hB⟩),
    SparseCore.bigSep_erase' (Finset.mem_erase.mpr ⟨cell_ne d L (s := sC) (s' := sB) (by decide),
      Finset.mem_erase.mpr ⟨cell_ne d L (s := sC) (s' := sA) (by decide), hC⟩⟩),
    SparseCore.bigSep_erase' (Finset.mem_erase.mpr ⟨cell_ne d L (s := sD) (s' := sC) (by decide),
      Finset.mem_erase.mpr ⟨cell_ne d L (s := sD) (s' := sB) (by decide), Finset.mem_erase.mpr ⟨cell_ne d L (s := sD) (s' := sA) (by decide), hD⟩⟩⟩),
    SparseCore.bigSep_erase' (Finset.mem_erase.mpr ⟨cell_ne d L (s := sE) (s' := sD) (by decide),
      Finset.mem_erase.mpr ⟨cell_ne d L (s := sE) (s' := sC) (by decide), Finset.mem_erase.mpr ⟨cell_ne d L (s := sE) (s' := sB) (by decide),
        Finset.mem_erase.mpr ⟨cell_ne d L (s := sE) (s' := sA) (by decide), hE⟩⟩⟩⟩)]

/-- A buffer of the subcore the task runs on. -/
abbrev own (b : Ref sig .scVector) : DevRef τ sig := (Proc.scVector (cV L) (jV L)).devRef b

omit [FloatOps F] in
theorem own_ne {b b' : Ref sig .scVector} (h : b ≠ b') : own L b ≠ own L b' := fun e => h (Proc.devRef_injective _ e)

/-- The subcore's buffers other than the task's three. -/
abbrev otherRefs : Finset (DevRef τ sig) :=
  (((ownRefs (τ := τ) (.scVector (cV L) (jV L))).erase (own L cc0_scratch0)).erase (own L cc0_scratch1)).erase (own L cc0_scratch2)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep (otherRefs L) fun b => iprop(∃ f, ((d, b) : Loc nD τ sig) ↦{fullShare} f)) := by
  have h0 : own L cc0_scratch0 ∈ ownRefs (τ := τ) (.scVector (cV L) (jV L)) := SparseCore.Cfg.mem_ownRefs_of_owner (p := Proc.scVector (cV L) (jV L)) rfl
  have h1 : own L cc0_scratch1 ∈ ownRefs (τ := τ) (.scVector (cV L) (jV L)) := SparseCore.Cfg.mem_ownRefs_of_owner (p := Proc.scVector (cV L) (jV L)) rfl
  have h2 : own L cc0_scratch2 ∈ ownRefs (τ := τ) (.scVector (cV L) (jV L)) := SparseCore.Cfg.mem_ownRefs_of_owner (p := Proc.scVector (cV L) (jV L)) rfl
  unfold SparseCore.Cfg.ownBufs
  refine (SparseCore.bigSep_erase' h0).trans ?_
  rw [SparseCore.bigSep_erase' (Finset.mem_erase.mpr ⟨own_ne L (b := cc0_scratch1) (b' := cc0_scratch0) (by decide), h1⟩),
    SparseCore.bigSep_erase' (Finset.mem_erase.mpr ⟨own_ne L (b := cc0_scratch2) (b' := cc0_scratch1) (by decide),
      Finset.mem_erase.mpr ⟨own_ne L (b := cc0_scratch2) (b' := cc0_scratch0) (by decide), h2⟩⟩)]

end Own

/-! ## The task, from what the call hands it -/

variable (m : (ℓ : Loc nD τ sig) → Buf (Elt F) ℓ)

/-- What the proof asks of the launch memory: every word of the pools names a row of `x`. -/
def PreOK : Prop := ∀ (d : Dev nD) (j : S25000x16.Idx), (m (aLoc d) j : BitVec 32).toNat < 100000

/-- A task's share of a read-only array, at its place in the grid. -/
abbrev shareOf (L : grid0.Coords) : PosShare TreeShare := taskSh (Fin.cast rfl (L 0)) (Fin.cast rfl (L 1))

set_option maxHeartbeats 1000000 in
/-- From its payload and its own buffers and counters, the task ends with its block of the output at the maxima and
    everything else as it was handed. -/
theorem tile (d : Dev nD) (L : grid0.Coords) (hpre : PreOK m) (O : CellTallies nD τ sig (HIx 1)) (W : Waits sig (HIx 1)) (hO : ∀ g, O g none = 0) :
    iprop(levAts (K (F := F)).L (K (F := F)).lev ∗ emp
        ∗ (xPts m d (shareOf L) ∗ pPts m d (shareOf L) ∗ oPts d (blk (worker L)) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xV (Memref.isWhole_whole _) pV (Memref.isWhole_whole _) oV (Memref.isWhole_whole _)
            iV (Memref.isWhole_whole _) gV (Memref.isWhole_whole _) rV (Memref.isWhole_whole _)
            cc0_scratch3 cc0_scratch4 cc0_scoped0 cc0_scoped1 cc0_scoped2)
          fun _ => iprop((xPts m d (shareOf L) ∗ pPts m d (shareOf L) ∗ oPts d (blk (worker L)) (O0 m d))
            ∗ scopedBufs (V d (cV L) (jV L)) ∗ scopedSems0 (V d (cV L) (jV L))
            ∗ ∃ W', ⌜∀ p ∈ W', p ∈ W ∨ p.2 = none ∨ p.2 = some 0⌝ ∗ owes (V d (cV L) (jV L)) O W') := by
  have ho (f : S25088x128.Idx → F .f32) : outIs d L f = oPts (F := F) d (blk (worker L)) f :=
    congrArg (fun I => (oPts (F := F) d I f : sProp 𝕄)) (window_eq L)
  have hdone (fo : S25088x128.Idx → F .f32) (h : Done L (m (xLoc d)) (listOf (P0 m d) (worker L)) 98 fo) :
      oPts (F := F) d (blk (worker L)) fo = oPts d (blk (worker L)) (O0 m d) := pointsTo_congr (done_all h)
  rw [(K (F := F)).scopedBufs_V facts d (cV L) (jV L), SparseCore.Cfg.scopedSems0_V (Val := Elt F) d (cV L) (jV L), ownSems0_V, ownBufs_V]
  iintro ⟨#Hlv, -, ⟨Hx, Hp, Ho⟩, ⟨⟨%fs, Hi⟩, ⟨%g, Hg⟩, ⟨%f, Hr⟩, Hbufs⟩, ⟨HA, HB, HC, HD, HE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (ho (m (oLoc d))).symm) $$ Ho
  ihave H := (task d L O W (m (xLoc d)) (P0 m d) (blocksOf_lt _ (hpre d)) (shareOf L) (shareOf L) (m (oLoc d)) fs g f) $$ [Hmw Hx Hp Ho' Hi Hg Hr HA HB HC HD HE HO]
  · isplitl [Hmw]; · iexact Hmw
    isplitl [Hx]; · iexact Hx
    isplitl [Hp]; · iexact Hp
    isplitl [Ho']; · iexact Ho'
    isplitl [Hi]; · iexact Hi
    isplitl [Hg]; · iexact Hg
    isplitl [Hr]; · iexact Hr
    isplitl [HA]; · iexact HA
    isplitl [HB]; · iexact HB
    isplitl [HC]; · iexact HC
    isplitl [HD]; · iexact HD
    isplitl [HE]; · iexact HE
    iexact HO
  iapply (wp_wand frame _ _) $$ H
  iintro %_ ⟨Hx, Hp, ⟨%fo, %hfo, Ho⟩, Hi, Hg, Hr, HA, HB, HC, HD, HE, HO⟩
  ihave Ho1 := (Entails.of_eq (ho fo)) $$ Ho
  ihave Ho2 := (Entails.of_eq (hdone fo hfo)) $$ Ho1
  isplitl [Hx Hp Ho2]
  · isplitl [Hx]; · iexact Hx
    isplitl [Hp]; · iexact Hp
    iexact Ho2
  isplitl [Hi Hg Hr Hbufs]
  · isplitl [Hi]; · iexact Hi
    isplitl [Hg]; · iexact Hg
    isplitl [Hr]; · iexact Hr
    iexact Hbufs
  isplitl [HA HB HC HD HE Hsems]
  · isplitl [HA]; · iexact HA
    isplitl [HB]; · iexact HB
    isplitl [HC]; · iexact HC
    isplitl [HD]; · iexact HD
    isplitl [HE]; · iexact HE
    iexact Hsems
  unfold owing
  icases HO with ⟨%W', %hW', HO⟩
  iexists W'; isplitr
  · ipureintro; exact fun p hp => (hW' p hp).imp_right Or.inl
  · iexact HO

/-! ## The call's obligation -/

/-- The grid's coordinates from a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xV (Memref.isWhole_whole _) pV (Memref.isWhole_whole _) oV (Memref.isWhole_whole _)
          iV (Memref.isWhole_whole _) gV (Memref.isWhole_whole _) rV (Memref.isWhole_whole _)
          cc0_scratch3 cc0_scratch4 cc0_scoped0 cc0_scoped1 cc0_scoped2) ⟨⟩ c s := rfl

set_option maxRecDepth 16384 in
theorem tileObl (hpre : PreOK m) : (K (F := F)).TileObl (D (F := F)) 𝒱 (pay m) v₀ 0 := by
  intro d c i O W hO _ _
  simp only [show (pay m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile m d (coordsV ⟨_, hci.1⟩ ⟨_, hci.2⟩) hpre O W hO

end Cert.Proof.Pool

end
-- ==== Proof.Main.lean ====
/-
  The program's run: the host pads and cuts the pools, the call's two cores and their subcores bring the output back at
  the maxima, the host keeps its first 25000 rows.
-/
module

public import proofs.«01_k».proof.Proof.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held after)

variable (m : (ℓ : Loc nD τ sig) → Buf (Elt F) ℓ)

/-! ## The launch's own resource -/

/-- The handshakes' rounds in the ghost state. -/
abbrev EH : Emb UH (MT nD τ sig (HIx 1) (Elt F) ℕ UU ℕ) := embL

/-- The launch element of the ghost state: the handshakes' rounds, and no transfer counted yet. -/
def u₀ : UU := (initOf (K (F := F)).hsCells (K (F := F)).hsToks, 1)

omit [FloatOps F] in
theorem noSpare : (bigSep Finset.univ fun _ : Dev nD => iprop(emp)) = (iprop(emp) : sProp 𝕄) := bigSep_emp_const _
theorem noExtra : (bigSep Finset.univ fun thr : Thread nD τ => bigSep Finset.univ fun q : Fin 1 => (pay (F := F) m).x q thr) = (iprop(emp) : sProp 𝕄) := by
  have h (thr : Thread nD τ) : (bigSep Finset.univ fun q : Fin 1 => (pay (F := F) m).x q thr) = (iprop(emp) : sProp 𝕄) := bigSep_univ_of_subsingleton (0 : Fin 1)
  simp only [h]; exact bigSep_emp_const _

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  rw [noSpare, noExtra]; unfold u₀
  iintro Hu
  ihave H := (ownU_pair (Name := ℕ) (Lvl := ℕ) (nD := nD) (sig := sig) (Ix := HIx 1) (Val := Elt F) _ _) $$ Hu
  icases H with ⟨Hh, -⟩
  imodintro
  isplitl [Hh]; · iexact Hh
  isplitr <;> iempintro

/-! ## The host's operations -/

abbrev bX : DevRef τ sig := Proc.devRef .tc (main_arg0 : Ref sig .tc)
abbrev bA : DevRef τ sig := Proc.devRef .tc (main_arg1 : Ref sig .tc)
abbrev bC : DevRef τ sig := Proc.devRef .tc (main_c : Ref sig .tc)
abbrev bZ : DevRef τ sig := Proc.devRef .tc (main_call0_v0 : Ref sig .tc)
abbrev bQ : DevRef τ sig := Proc.devRef .tc (main_v0 : Ref sig .tc)
abbrev bP : DevRef τ sig := Proc.devRef .tc (main_v1 : Ref sig .tc)
abbrev bO : DevRef τ sig := Proc.devRef .tc (main_v2 : Ref sig .tc)
abbrev bR : DevRef τ sig := Proc.devRef .tc (main_v3 : Ref sig .tc)

abbrev opZero : HloOp τ sig (Elt F) := StableHlo.nullary main_c (constantI S_ 32 0#32)
abbrev opFill : HloOp τ sig (Elt F) := StableHlo.unary main_c main_call0_v0 id
abbrev opPad : HloOp τ sig (Elt F) :=
  StableHlo.binary main_arg1 main_call0_v0 main_v0 fun x v => pad S25088x16 ![0, 0] ![88, 0] ![0, 0] x v pads_S25000x16_S25088x16_0880_000 h_S_
abbrev opCut : HloOp τ sig (Elt F) := StableHlo.reshape main_v0 main_v1 rfl shapeCasts_S25088x16_S32x98x128
abbrev opSlice : HloOp τ sig (Elt F) := StableHlo.unary main_v2 main_v3 (extractStridedSlice S25000x128 ![0, 0] · slices_S25088x128_S25000x128_0_0)

/-- The operations before the call. -/
abbrev pre4 : List (HloOp τ sig (Elt F)) := [opZero, opFill, opPad, opCut]

/-- The TensorCore's arrays. -/
abbrev S8 : Finset (DevRef τ sig) := {bX, bA, bC, bZ, bQ, bP, bO, bR}

omit [FloatOps F] in
theorem held_S8 (d : Dev nD) (W : Valuation τ sig (Elt F)) :
    (held (T d) S8 W : sProp 𝕄)
      = iprop((xLoc d ↦{fullShare} W bX) ∗ (aLoc d ↦{fullShare} W bA) ∗ ((SparseCore.T d).loc main_c ↦{fullShare} W bC)
          ∗ ((SparseCore.T d).loc main_call0_v0 ↦{fullShare} W bZ) ∗ ((SparseCore.T d).loc main_v0 ↦{fullShare} W bQ)
          ∗ (pLoc d ↦{fullShare} W bP) ∗ (oLoc d ↦{fullShare} W bO) ∗ rLoc d ↦{fullShare} W bR) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscoped_eq (d : Dev nD) : (unscopedBufs d (fun b => m ((SparseCore.T d).loc b)) : sProp 𝕄) = held (T d) S8 (fun b => m (d, b)) := by
  rw [held_S8]; unfold unscopedBufs
  rw [show (Finset.univ.filter fun b : Ref sig .tc => ¬ b.isScoped) = {main_arg0, main_arg1, main_c, main_call0_v0, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents at the call, and once it has brought the output back. -/
def V1 (d : Dev nD) : Valuation τ sig (Elt F) := after pre4 fun b => m (d, b)
def V2 (d : Dev nD) : Valuation τ sig (Elt F) := Function.update (V1 m d) bO (O0 m d)

theorem V1_keep (d : Dev nD) (b : DevRef τ sig) (h : b ∉ ({bC, bZ, bQ, bP} : Finset (DevRef τ sig))) : V1 m d b = m (d, b) := by
  simp only [Finset.mem_insert, Finset.mem_singleton, not_or] at h
  obtain ⟨hC, hZ, hQ, hP⟩ := h
  show (opCut (F := F)).result ((opPad (F := F)).result ((opFill (F := F)).result ((opZero (F := F)).result fun b => m (d, b)))) b = _
  rw [(opCut (F := F)).result_of_not_mem _ (show b ∉ ({bP} : Finset (DevRef τ sig)) by simpa using hP),
    (opPad (F := F)).result_of_not_mem _ (show b ∉ ({bQ} : Finset (DevRef τ sig)) by simpa using hQ),
    (opFill (F := F)).result_of_not_mem _ (show b ∉ ({bZ} : Finset (DevRef τ sig)) by simpa using hZ),
    (opZero (F := F)).result_of_not_mem _ (show b ∉ ({bC} : Finset (DevRef τ sig)) by simpa using hC)]

/-- At the call the index blocks are the pools, padded and cut. -/
theorem V1_blocks (d : Dev nD) : V1 m d bP = P0 m d := by
  show (opCut (F := F)).result ((opPad (F := F)).result ((opFill (F := F)).result ((opZero (F := F)).result fun b => m (d, b)))) bP = _
  unfold P0 blocksOf
  rw [show (opCut (F := F)).result ((opPad (F := F)).result ((opFill (F := F)).result ((opZero (F := F)).result fun b => m (d, b)))) bP = _ from StableHlo.reshape_result _ _ _ _ _ _ _,
    show (opPad (F := F)).result ((opFill (F := F)).result ((opZero (F := F)).result fun b => m (d, b))) bQ = _ from StableHlo.binary_result _ _ _ _ _ _ _ _,
    show (opFill (F := F)).result ((opZero (F := F)).result fun b => m (d, b)) bZ = _ from StableHlo.unary_result _ _ _ _ _ _,
    show (opZero (F := F)).result (fun b => m (d, b)) bC = _ from StableHlo.nullary_result _ _ _ _,
    (opFill (F := F)).result_of_not_mem _ (show bA ∉ ({bZ} : Finset (DevRef τ sig)) by decide),
    (opZero (F := F)).result_of_not_mem _ (show bA ∉ ({bC} : Finset (DevRef τ sig)) by decide)]
  rfl

/-- The result: the output's first 25000 rows. -/
def R0 (d : Dev nD) : S25000x128.Idx → F .f32 := extractStridedSlice S25000x128 ![0, 0] (O0 m d) slices_S25088x128_S25000x128_0_0

/-- The arrays that neither the call takes nor the claims name. -/
abbrev rest (d : Dev nD) : sProp 𝕄 :=
  iprop(((SparseCore.T d).loc main_c ↦{fullShare} V1 m d bC) ∗ ((SparseCore.T d).loc main_call0_v0 ↦{fullShare} V1 m d bZ)
    ∗ ((SparseCore.T d).loc main_v0 ↦{fullShare} V1 m d bQ) ∗ rLoc d ↦{fullShare} V1 m d bR)

theorem held_V1 (d : Dev nD) : (held (d.tc : Thread nD τ) S8 (after pre4 fun b => m (d, b)) : sProp 𝕄)
    ⊢ iprop((xPts m d fullShare ∗ pPts m d fullShare ∗ oPts d Finset.univ (m (oLoc d))) ∗ (aLoc d ↦{fullShare} m (aLoc d)) ∗ rest m d) := by
  show held (T d) S8 (V1 m d) ⊢ _
  rw [held_S8, V1_blocks, V1_keep m d bX (by decide), V1_keep m d bA (by decide), V1_keep m d bO (by decide)]
  iintro ⟨Hx, Ha, Hc, Hz, Hq, Hp, Ho, Hr⟩
  isplitl [Hx Hp Ho]
  · isplitl [Hx]; · iexact Hx
    isplitl [Hp]; · iexact Hp
    iexact Ho
  isplitl [Ha]; · iexact Ha
  isplitl [Hc]; · iexact Hc
  isplitl [Hz]; · iexact Hz
  isplitl [Hq]; · iexact Hq
  iexact Hr

theorem held_V2 (d : Dev nD) :
    iprop((xPts m d fullShare ∗ pPts m d fullShare ∗ oPts d Finset.univ (O0 m d)) ∗ (aLoc d ↦{fullShare} m (aLoc d)) ∗ rest m d)
      ⊢ (held (T d) S8 (V2 m d) : sProp 𝕄) := by
  have h (b : DevRef τ sig) (hb : b ≠ bO) : V2 m d b = V1 m d b := Function.update_of_ne hb _ _
  rw [held_S8, show V2 m d bO = O0 m d from Function.update_self _ _ _, h bX (by decide), h bA (by decide), h bC (by decide), h bZ (by decide),
    h bQ (by decide), h bP (by decide), h bR (by decide), V1_blocks, V1_keep m d bX (by decide), V1_keep m d bA (by decide)]
  iintro ⟨⟨Hx, Hp, Ho⟩, Ha, Hc, Hz, Hq, Hr⟩
  isplitl [Hx]; · iexact Hx
  isplitl [Ha]; · iexact Ha
  isplitl [Hc]; · iexact Hc
  isplitl [Hz]; · iexact Hz
  isplitl [Hq]; · iexact Hq
  isplitl [Hp]; · iexact Hp
  isplitl [Ho]; · iexact Ho
  iexact Hr

/-- What the program leaves the claims: its arguments as they were, its result the slice of the output. -/
abbrev FIN (d : Dev nD) : sProp 𝕄 := iprop((xLoc d ↦{fullShare} m (xLoc d)) ∗ (aLoc d ↦{fullShare} m (aLoc d)) ∗ rLoc d ↦{fullShare} R0 m d)

/-- The last operation leaves the result. -/
theorem result_eq (d : Dev nD) : (opSlice (F := F)).result (V2 m d) bR = R0 m d := by
  rw [show (opSlice (F := F)).result (V2 m d) bR = extractStridedSlice S25000x128 ![0, 0] (V2 m d bO) slices_S25088x128_S25000x128_0_0
      from StableHlo.unary_result _ _ _ _ _ _, show V2 m d bO = O0 m d from Function.update_self _ _ _]
  rfl

theorem held_end (d : Dev nD) : (held (T d) S8 ((opSlice (F := F)).result (V2 m d)) : sProp 𝕄) ⊢ FIN m d := by
  have h (b : DevRef τ sig) (hR : b ∉ ({bR} : Finset (DevRef τ sig))) (hb : b ∉ ({bC, bZ, bQ, bP} : Finset (DevRef τ sig))) (hO : b ≠ bO) :
      (opSlice (F := F)).result (V2 m d) b = m (d, b) :=
    ((opSlice (F := F)).result_of_not_mem _ hR).trans ((Function.update_of_ne hO _ _).trans (V1_keep m d b hb))
  rw [held_S8, h bX (by decide) (by decide) (by decide), h bA (by decide) (by decide) (by decide), result_eq]
  iintro ⟨Hx, Ha, -, -, -, -, -, Hr⟩
  isplitl [Hx]; · iexact Hx
  isplitl [Ha]; · iexact Ha
  iexact Hr

/-! ## The program on the TensorCore -/

theorem main_eq (d : Dev nD) : main (F := F) d = StableHlo.seq pre4 >>= fun _ => (do
    sc.run d 0
    hlo rfl opSlice fun _ => .ret ⟨⟩
    pure ⟨⟩) := rfl

omit [FloatOps F] in
theorem hSlice : (opSlice (F := F)).bufs ⊆ S8 := show ({bO, bR} : Finset (DevRef τ sig)) ⊆ S8 by decide
omit [FloatOps F] in
theorem hpre4 : ∀ op ∈ (pre4 (F := F)), op.bufs ⊆ S8 := by
  intro op h
  simp only [List.mem_cons, List.mem_nil_iff, or_false] at h
  rcases h with rfl | rfl | rfl | rfl
  · exact show ({bC} : Finset (DevRef τ sig)) ⊆ S8 by decide
  · exact show ({bC, bZ} : Finset (DevRef τ sig)) ⊆ S8 by decide
  · exact show ({bA, bZ, bQ} : Finset (DevRef τ sig)) ⊆ S8 by decide
  · exact show ({bQ, bP} : Finset (DevRef τ sig)) ⊆ S8 by decide
omit [FloatOps F] in
theorem hfresh : ∀ op ∈ (pre4 (F := F)), op.fresh = ∅ := by
  intro op h
  simp only [List.mem_cons, List.mem_nil_iff, or_false] at h
  rcases h with rfl | rfl | rfl | rfl <;> rfl

/-- The host's part and the call: from the launch's resources to the arguments and the result. -/
theorem hmain (ρ : Dev nD → PrngReg) (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq, main_eq]
  iintro ⟨#Hctx, Hst, ⟨Hb, Hheld, Hts, -⟩, -⟩
  iapply (StableHlo.wp_seq 𝒱 none Set.univ (d := d) (S := S8) _ pre4 hpre4 hfresh (fun b => m (d, b))) $$ [Hb Hheld]
  · isplitl [Hb] <;> iassumption
  iintro ⟨Hb, Hheld⟩
  ihave Hh := (held_V1 (F := F) m d) $$ Hheld
  icases Hh with ⟨Hops, Ha, Hrest⟩
  rw [wp_bind]
  iapply ((K (F := F)).wp_run (D (F := F)) 𝒱 (EH := EH) (P := pay m) κ d 0) $$ [Hst Hops Hb Ha Hrest Hts]
  isplitr; · iexact Hctx
  isplitl [Hst]; · iexact Hst
  isplitl [Hops]; · rw [st_eq]; iexact Hops
  iintro ⟨Hst, Hdn⟩
  ihave Hops := (Entails.of_eq (dn_eq m d)) $$ Hdn
  ihave Hheld := (held_V2 (F := F) m d) $$ [Hops Ha Hrest]
  · isplitl [Hops]; · iexact Hops
    isplitl [Ha] <;> iassumption
  rw [wp_bind]
  iapply (StableHlo.wp_hlo_within 𝒱 (SparseCore.T d) none Set.univ (op := opSlice) (S := S8) hSlice (V := V2 m d)) $$ [Hb Hheld]
  · isplitl [Hb] <;> iassumption
  iintro ⟨Hb, Hheld⟩
  ihave Hfin := (held_end (F := F) m d) $$ Hheld
  rw [wp_ret]; imodintro
  rw [wp_pure]; imodintro
  isplitl [Hst]; · iexact Hst
  isplitl [Hfin]; · iexact Hfin
  isplitl [Hb] <;> iassumption

/-! ## What the claims read of a final state -/

/-- On device `d`: the result in place, the arguments as they were. -/
def Ends (d : Dev nD) (s' : Phys nD τ sig (Elt F)) : Prop :=
  s'.mem.mem (rLoc d) = R0 m d ∧ s'.mem.mem (xLoc d) = m (xLoc d) ∧ s'.mem.mem (aLoc d) = m (aLoc d)

theorem hfin (d : Dev nD) (s' : Phys nD τ sig (Elt F)) : iprop(FIN m d ∗ SI s') ⊢ (⌜Ends m d s'⌝ : sProp 𝕄) := by
  have agree (ℓ : Loc nD τ sig) (f : Buf (Elt F) ℓ) :
      iprop(SI s' ∗ (ℓ ↦{fullShare} f)) ⊢ (iprop(⌜s'.mem.mem ℓ = f⌝ ∗ SI s') : sProp 𝕄) := by
    iintro H
    ihave H := (persistent_entails_right (SI_pointsTo_agree (st := s') (ℓ := ℓ) (I := Finset.univ) (q := fullShare) (f := f))) $$ H
    icases H with ⟨%h, HSI, -⟩
    isplitr
    · ipureintro; exact funext fun i => h i (Finset.mem_univ i)
    · iexact HSI
  iintro ⟨⟨Hx, Ha, Hr⟩, HSI⟩
  ihave H := (agree (xLoc d) (m (xLoc d))) $$ [HSI Hx]
  · isplitl [HSI] <;> iassumption
  icases H with ⟨%hx, HSI⟩
  ihave H := (agree (aLoc d) (m (aLoc d))) $$ [HSI Ha]
  · isplitl [HSI] <;> iassumption
  icases H with ⟨%ha, HSI⟩
  ihave H := (agree (rLoc d) (R0 m d)) $$ [HSI Hr]
  · isplitl [HSI] <;> iassumption
  icases H with ⟨%hr, -⟩
  ipureintro; exact ⟨hr, hx, ha⟩

/-- The final states the claims need: on every device the result and the arguments, and every counter at zero. -/
def Final : PUnit × MemSt nD τ sig (Elt F) → Prop := fun r =>
  (∀ c : Dev nD, r.2.mem (rLoc c) = R0 m c ∧ r.2.mem (xLoc c) = m (xLoc c) ∧ r.2.mem (aLoc c) = m (aLoc c)) ∧ r.2.sem = fun _ => 0

/-- Where the pools name rows of `x`, every run ends, with the result and the arguments as stated and no counter raised. -/
theorem run_main [∀ e, Nonempty (Elt F e)] (ρ : Dev nD → PrngReg) (hpre : PreOK m) :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (Ends m) (hfin m) (Final m) (fun _ h hz => ⟨h, hz⟩)

end Cert.Proof.Pool

end
-- ==== Proof.Range.lean ====
/-
  Words in range: what the precondition says of the pools, word by word, and a reduction by `and` over one-bit words.
-/
module

public import proofs.«01_k».proof.Defs
public import Idealize.ShloMosaic.PureOps.Reduce
public import Idealize.ShloMosaic.Lib.ValueIdxCore
public import Idealize.ShloMosaic.Lib.StableHlo.Predicate

@[expose] public section

noncomputable section

namespace Cert.Proof.Pool

open Idealize.ShloMosaic

/-- The conjunction of two one-bit words is one exactly when both are. -/
theorem and_one {a b : BitVec 1} : IntOp.andi a b = 1#1 ↔ a = 1#1 ∧ b = 1#1 := by
  revert a b; decide

/-- Conjunction's result over a set is one exactly when the start and every word are. -/
theorem fold_and {ι : Type} (s : Finset ι) (b : BitVec 1) (f : ι → BitVec 1) :
    s.fold IntOp.andi b f = 1#1 ↔ b = 1#1 ∧ ∀ i ∈ s, f i = 1#1 := by
  classical
  induction s using Finset.induction_on with
  | empty => simp
  | insert i s hi ih => rw [Finset.fold_insert hi, and_one, ih]; simp only [Finset.mem_insert, forall_eq_or_imp]; tauto

/-- A reduction by `and` that is one at an index had one at every index that drops to it. -/
theorem reduce_and {s t u : Shape} {axes : List (Fin s.rank)} (x : IVec s 1) (init : IVec u 1) (h : s.ReducesTo axes t) (hu : 0 < u.numel) (j : t.Idx) :
    Host.reduce IntOp.andi x init h hu j = 1#1 ↔ init (Shape.Idx.first hu) = 1#1 ∧ ∀ i, h.drop i = j → x i = 1#1 := by
  rw [Host.reduce_eq_fold, fold_and]
  simp only [Finset.mem_filter, Finset.mem_univ, _root_.true_and]

/-- A word from zero up to, as a signed number, below a hundred thousand. -/
theorem in_range {w : BitVec 32} : IntOp.andi (IntOp.cmpi .sge w 0#32) (IntOp.cmpi .slt w 100000#32) = 1#1 ↔ w.toNat < 100000 := by
  have h0 : (0#32 : BitVec 32).toInt = 0 := by decide
  have h1 : (100000#32 : BitVec 32).toInt = 100000 := by decide
  have := w.isLt
  rw [and_one]
  simp only [IntOp.cmpi, StableHlo.Predicate.ofBool_eq_one_iff, BitVec.sle_eq_decide, BitVec.slt_eq_decide, decide_eq_true_eq, h0, h1, BitVec.toInt_eq_toNat_cond]
  split <;> omega

/-- The precondition says that every word of the pools is a row number of `x`. -/
theorem pools_lt {F : FTy → Type} [FloatOps F] [Cert.Pre_pools_in_range.Facts] (x : FVec F Cert.Pre_pools_in_range.S100000x128 .f32)
    (p : IVec Cert.Pre_pools_in_range.S25000x16 32) (h : Cert.Pre_pools_in_range.fn x p = fun _ => 1#1) (j : Cert.Pre_pools_in_range.S25000x16.Idx) :
    (p j).toNat < 100000 := by
  have h' := (reduce_and _ _ _ _ _).mp (congrFun h fun a => a.elim0)
  exact in_range.mp (h'.2 j (funext fun a => a.elim0))

end Cert.Proof.Pool

end
-- ==== Proof.Ref.lean ====
/-
  The reference's value where the pools name rows of `x`: at row `r` and column `c`, the maximum over `r`'s sixteen
  words of the entry of `x` in the row the word names.
-/
module

public import proofs.«01_k».proof.Proof.Base
public import proofs.«01_k».proof.Proof.Range
public import proofs.«01_k».proof.Proof.Gen.ReferenceIdeal.Run
public import Idealize.ShloMosaic.Lib.Pipeline.Value
public import Idealize.ShloMosaic.PureOps.Ideal.Laws

@[expose] public section

noncomputable section

namespace Cert.Proof.Pool

open Cert.ReferenceIdeal Cert.ReferenceIdeal.Gen
open Idealize.ShloMosaic Idealize.ShloMosaic.TcCoe Idealize.SL.Sem
open Idealize.ShloMosaic.ValueIdx

/-! ## The maximum of sixteen values -/

/-- From the least value, the maximum over `0, …, n` in any order is the left fold. -/
theorem fold_max (h : ℕ → EReal) (n : ℕ) :
    (Finset.univ : Finset (Fin (n + 1))).fold (FloatOps.maximumf (F := Ideal) (φ := .f32)) (⊥ : EReal) (fun k => h k.val)
      = foldMax (F := Ideal) h n := by
  induction n with
  | zero => exact max_eq_left bot_le
  | succ n ih =>
    rw [Fin.univ_castSuccEmb (n + 1), Finset.fold_cons, Finset.fold_map]
    exact (max_comm _ _).trans (congrArg (max · (h (n + 1))) ih)

/-! ## The reference, operation by operation -/

variable (x : S100000x128.Idx → EReal) (p : S25000x16.Idx → BitVec 32)

/-- The pools with a negative word counted from the table's end. -/
def wrapped : S25000x16.Idx → BitVec 32 :=
  select (cmpi .slt p (broadcastInDim S25000x16 ![] bcast_S_S25000x16 (constantI S_ 32 0#32)))
    (addi p (broadcastInDim S25000x16 ![] bcast_S_S25000x16 (constantI S_ 32 100001#32))) p

/-- The row numbers, one in a row of its own. -/
def numbers : S25000x16x1.Idx → BitVec 32 := broadcastInDim S25000x16x1 ![0, 1] bcast_S25000x16_S25000x16x1_0_1 (wrapped p)

/-- Whether a row number is one of the table's. -/
def inside : S25000x16.Idx → BitVec 1 :=
  Host.reduce IntOp.andi (andi (cmpi .sge (numbers p) (broadcastInDim S25000x16x1 ![] bcast_S_S25000x16x1 (constantI S_ 32 0#32)))
    (cmpi .sle (numbers p) (broadcastInDim S25000x16x1 ![0, 1, 2] bcast_S1x1x1_S25000x16x1_0_1_2 (broadcastInDim S1x1x1 ![2] bcast_S1_S1x1x1_2 (constantI S1 32 100000#32)))))
    (constantI S_ 1 1#1) reducesTo_S25000x16x1_S25000x16_d2 h_S_

/-- `x` with a row of zeros under it. -/
def table : S100001x128.Idx → EReal :=
  concatenate S100001x128 0 [⟨S100000x128, x⟩, ⟨S1x128, broadcastInDim S1x128 ![] bcast_S_S1x128 (constant (F := Ideal) S_ .f32 0x00000000#32)⟩]
    concatenates_S100000x128_S1x128_S100001x128_d0

/-- The rows the pools name. -/
def rows : S25000x16x128.Idx → EReal :=
  select (broadcastInDim S25000x16x128 ![0, 1] bcast_S25000x16_S25000x16x128_0_1 (inside p))
    (Host.gather gather_S100001x128_S25000x16x1_S25000x16x128_2_0_n_n_0_2_1128 (table x) (numbers p))
    (broadcastInDim S25000x16x128 ![] bcast_S_S25000x16x128 (constant (F := Ideal) S_ .f32 0x7FC00000#32))

/-- The reference's result. -/
def refOut : S25000x128.Idx → EReal :=
  Host.reduce (FloatOps.maximumf (F := Ideal) (φ := .f32)) (rows x p) (constant (F := Ideal) S_ .f32 0xFF800000#32) reducesTo_S25000x16x128_S25000x128_d1 h_S_

/-- Where the row number for `(r, j)` is one of the table's, the gather reads, at `(r, j, c)`, that row at column `c`. -/
theorem gather_coord (r : Fin 25000) (j : Fin 16) (c : Fin 128) (idx : S25000x16x1.Idx → BitVec 32) (w : BitVec 32) (hi : idx (ix3 r j 0) = w)
    (h : w.toNat < 100000) (a : Fin 2) :
    (gather_S100001x128_S25000x16x1_S25000x16x128_2_0_n_n_0_2_1128.operandIdx (ix3 r j c) idx a).val = (ix2 (n0 := 100001) ⟨w.toNat, by omega⟩ c a).val := by
  set d := gather_S100001x128_S25000x16x1_S25000x16x128_2_0_n_n_0_2_1128 with hd
  show d.start (ix3 r j c) idx a + d.batchCoord (ix3 r j c) a + d.offCoord (ix3 r j c) a = _
  rw [GatherDims.batchCoord_eq_zero _ _ _ (show a ∉ d.operandBatchingDims from List.not_mem_nil)]
  obtain rfl | rfl : a = 0 ∨ a = 1 := by omega
  · rw [GatherDims.offCoord_eq_zero _ _ _ (fun hk => ((GatherDims.mem_sKept _ _).mp hk).1 (List.mem_singleton.mpr rfl))]
    unfold GatherDims.start
    rw [dif_pos (show (0 : Fin 2) ∈ d.startIndexMap from List.mem_singleton.mpr rfl)]
    have hs : d.siIdx (ix3 r j c) ⟨List.idxOf (0 : Fin 2) d.startIndexMap, List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hs, hi, StableHlo.Predicate.toInt_eq_toNat_of_lt (by omega)]
    show min ((w.toNat : ℤ)).toNat (100001 - 1) + 0 + 0 = w.toNat
    omega
  · have hm : (1 : Fin 2) ∉ d.startIndexMap := by decide
    unfold GatherDims.start
    rw [dif_neg hm]
    show 0 + 0 + d.offCoord (ix3 r j c) 1 = c.val
    rw [Nat.zero_add]
    unfold GatherDims.offCoord
    rw [dif_pos (show (1 : Fin 2) ∈ d.sKept by decide)]
    rfl

/-! ## The same where every word is a row number of `x` -/

section InRange

variable (hp : ∀ j, (p j).toNat < 100000)
include hp

theorem word_bits (j : S25000x16.Idx) : IntOp.cmpi .slt (p j) 0#32 = 0#1 ∧ IntOp.cmpi .sge (p j) 0#32 = 1#1 ∧ IntOp.cmpi .sle (p j) 100000#32 = 1#1 := by
  have h := hp j
  have hb : (p j).toNat < 2 ^ 31 := by omega
  refine ⟨eq_zero_of_ne_one fun e => ?_, (StableHlo.Predicate.sge_iff_toNat hb (by decide)).mpr ?_, (StableHlo.Predicate.sle_iff_toNat hb (by decide)).mpr ?_⟩
  · exact absurd ((StableHlo.Predicate.slt_iff_toNat hb (by decide)).mp e) (Nat.not_lt_zero _)
  · exact Nat.zero_le _
  · show (p j).toNat ≤ 100000; omega

/-- No word is counted from the end. -/
theorem wrapped_eq : wrapped p = p := by
  funext j
  unfold wrapped
  rw [select_apply, show cmpi .slt p (broadcastInDim S25000x16 ![] bcast_S_S25000x16 (constantI S_ 32 0#32)) j = 0#1 from (word_bits p hp j).1]
  rfl

theorem numbers_eq (y : S25000x16x1.Idx) : numbers p y = p (ix2 ⟨(y 0).val, (y 0).isLt⟩ ⟨(y 1).val, (y 1).isLt⟩) := by
  unfold numbers
  rw [wrapped_eq p hp]
  refine broadcastInDim_apply _ _ _ _ _ fun a => ?_
  match a with
  | ⟨0, _⟩ => rfl
  | ⟨1, _⟩ => rfl

/-- Every row number is one of the table's. -/
theorem inside_eq (j : S25000x16.Idx) : inside p j = 1#1 := by
  unfold inside
  rw [reduce_and]
  refine ⟨rfl, fun i _ => and_one.mpr ?_⟩
  show IntOp.cmpi .sge (numbers p i) 0#32 = 1#1 ∧ IntOp.cmpi .sle (numbers p i) 100000#32 = 1#1
  rw [numbers_eq p hp]
  exact (word_bits p hp _).2

/-- The row of the table a word names is that row of `x`. -/
theorem rows_eq (r : Fin 25000) (j : Fin 16) (c : Fin 128) : rows x p (ix3 r j c) = x (ix2 ⟨(p (ix2 r j)).toNat, hp _⟩ c) := by
  unfold rows
  rw [select_apply, show broadcastInDim S25000x16x128 ![0, 1] bcast_S25000x16_S25000x16x128_0_1 (inside p) (ix3 r j c) = 1#1 from inside_eq p hp _, select_one]
  have hn : numbers p (ix3 r j 0) = p (ix2 r j) := numbers_eq p hp _
  have h := hp (ix2 r j)
  have e : gather_S100001x128_S25000x16x1_S25000x16x128_2_0_n_n_0_2_1128.operandIdx (ix3 r j c) (numbers p) = ix2 (n0 := 100001) ⟨(p (ix2 r j)).toNat, by omega⟩ c := by
    funext a
    exact Fin.ext (gather_coord r j c (numbers p) _ hn h a)
  unfold Host.gather table
  rw [e]
  refine concatenate_pair_apply_left (t := S100001x128) (s₁ := S100000x128) (s₂ := S1x128) 0 x _ concatenates_S100000x128_S1x128_S100001x128_d0
    (ix2 (n0 := 100001) ⟨(p (ix2 r j)).toNat, by omega⟩ c) rfl (ix2 ⟨(p (ix2 r j)).toNat, hp _⟩ c) fun b => ?_
  match b with
  | ⟨0, _⟩ => rfl
  | ⟨1, _⟩ => rfl

/-- The reference's result: the maximum of the sixteen entries. -/
theorem refOut_eq (r : Fin 25000) (c : Fin 128) :
    refOut x p (ix2 r c) = foldMax (F := Ideal) (fun j => x (ix2 ⟨(p (ix2 r (Fin.ofNat 16 j))).toNat, hp _⟩ c)) 15 := by
  have hred : S25000x16x128.Reduces [1] S25000x128 := by decide
  have hb : (constant (F := Ideal) S_ .f32 0xFF800000#32) (Shape.Idx.first h_S_) = (⊥ : EReal) := by
    show Ideal.ofBits .f32 0xFF800000#32 = ⊥
    simp [Ideal.ofBits, Ideal.ieee]
  have hl (k : Fin 16) : hred.lift (ix2 r c) k = ix3 r k c := by
    funext a
    match a with
    | ⟨0, _⟩ => rfl
    | ⟨1, _⟩ => rfl
    | ⟨2, _⟩ => rfl
  have hk (k : Fin 16) : rows x p (ix3 r k c) = x (ix2 ⟨(p (ix2 r (Fin.ofNat 16 k.val))).toNat, hp _⟩ c) := by
    have e : Fin.ofNat 16 k.val = k := Fin.ext (Nat.mod_eq_of_lt k.isLt)
    rw [rows_eq x p hp r k c]
    simp only [e]
  refine (Host.reduce_eq_fold_single (FloatOps.maximumf (F := Ideal) (φ := .f32)) (rows x p) _ reducesTo_S25000x16x128_S25000x128_d1 hred h_S_ (ix2 r c)).trans ?_
  refine Eq.trans ?_ (fold_max (fun j => x (ix2 ⟨(p (ix2 r (Fin.ofNat 16 j))).toNat, hp _⟩ c)) 15)
  rw [hb]
  refine Finset.fold_congr fun k _ => ?_
  have e := (congrArg (rows x p) (hl k)).trans (hk k)
  simp only [Function.comp_apply]
  exact e

end InRange

end Cert.Proof.Pool

end
-- ==== Proof.Equal.lean ====
/-
  The kernel's result is the reference's: both hold, at row `r` and column `c`, the maximum over the sixteen words of
  pool `r` of the entry of `x` in the row the word names.
-/
module

public import proofs.«01_k».proof.Proof.Main
public import proofs.«01_k».proof.Proof.Ref
public import Idealize.ShloMosaic.Lib.KernelVsHost

@[expose] public section

noncomputable section

namespace Cert.Proof.Pool

open Cert.KernelIdeal Cert.KernelIdeal.Gen
open Idealize.ShloMosaic Idealize.ShloMosaic.TcCoe Idealize.SL.Sem
open Idealize.ShloMosaic.ValueIdx

/-- The pools, padded by 88 pools of zeros. -/
abbrev padded (p : S25000x16.Idx → BitVec 32) : S25088x16.Idx → BitVec 32 :=
  pad S25088x16 ![0, 0] ![88, 0] ![0, 0] p (constantI S_ 32 0#32) pads_S25000x16_S25088x16_0880_000 h_S_

/-- Word `j` of pool `r`, where task `r / 784`'s list has it. -/
theorem list_word (p : S25000x16.Idx → BitVec 32) (r : Fin 25000) (j : ℕ) (hj : j ≤ 15) :
    listOf (blocksOf p) (r.val / 784) (iAt (r.val % 784 / 8) (16 * (r.val % 784 % 8) + j)) = p (ix2 r (Fin.ofNat 16 j)) := by
  have hr := r.isLt
  have e16 : j % 16 = j := Nat.mod_eq_of_lt (by omega)
  refine (shapeCast_apply (padded p) shapeCasts_S25088x16_S32x98x128 _ (ix2 (n0 := 25088) (n1 := 16) ⟨r.val, by omega⟩ (Fin.ofNat 16 j)) ?_).trans ?_
  · refine (Shape.rowMajor_val_two _).trans (Eq.trans ?_ (Shape.rowMajor_val_three _).symm)
    show r.val * 16 + j % 16 = (r.val / 784 % 32 * 98 + r.val % 784 / 8 % 98 % 98) * 128 + (16 * (r.val % 784 % 8) + j) % 128 % 128
    omega
  · refine pad_apply_of_inside _ _ _ p _ _ _ _ (ix2 r (Fin.ofNat 16 j)) fun a => ?_
    match a with
    | ⟨0, _⟩ => show r.val = 0 + r.val * (0 + 1); omega
    | ⟨1, _⟩ => show j % 16 = 0 + j % 16 * (0 + 1); omega

variable (m : (ℓ : Loc nD τ sig) → Buf (Elt Ideal) ℓ)

/-- Where the pools name rows of `x`, the kernel's result is the reference's. -/
theorem result_ref (hpre : PreOK m) (d : Dev nD) : R0 m d = refOut (m (xLoc d)) (m (aLoc d)) := by
  funext y
  obtain ⟨r, c, rfl⟩ : ∃ (r : Fin 25000) (c : Fin 128), y = ix2 r c := ⟨y 0, y 1, eq_ix2 y⟩
  have hr := r.isLt
  have hc := c.isLt
  rw [refOut_eq _ _ (hpre d) r c]
  refine (extractStridedSlice_apply _ (O0 m d) _ _ (ix2 (n0 := 25088) (n1 := 128) ⟨r.val, by omega⟩ c) fun a => ?_).trans ?_
  · match a with
    | ⟨0, _⟩ => show r.val = 0 + r.val; omega
    | ⟨1, _⟩ => show c.val = 0 + c.val; omega
  refine foldMax_congr fun j hj => congrArg (m (xLoc d)) ?_
  have hw := hpre d (ix2 r (Fin.ofNat 16 j))
  show xAt (listOf (blocksOf (m (aLoc d))) (r.val / 784) (iAt (r.val % 784 / 8) (16 * (r.val % 784 % 8) + j))).toNat c.val = _
  rw [list_word _ r j hj]
  funext a
  match a with
  | ⟨0, _⟩ => exact Fin.ext (Nat.mod_eq_of_lt hw)
  | ⟨1, _⟩ => exact Fin.ext (Nat.mod_eq_of_lt hc)

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pools_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- At words, the kernel ends with its arguments unchanged and no counter raised. -/
theorem kernel_frame : Cert.quiescent_Kernel (hKernel := Cert.Kernel.Gen.facts) (hPre_pools_in_range := Cert.Pre_pools_in_range.Gen.facts) :=
  fun m ρ h => (θ_run (Cert.KernelIdeal.defs (F := Bits)) _ _).mono (fun _ e => ⟨fun c => (e.1 c).2, e.2⟩)
    (Pool.run_main (F := Bits) m ρ fun d j => Pool.pools_lt _ _ (h d) j)

/-- At the extended reals, the kernel ends with its arguments unchanged and no counter raised. -/
theorem kernelIdeal_frame :
    Cert.quiescent_KernelIdeal (hKernelIdeal := Cert.KernelIdeal.Gen.facts) (hPre_pools_in_range := Cert.Pre_pools_in_range.Gen.facts) :=
  fun m ρ h => (θ_run (Cert.KernelIdeal.defs (F := Ideal)) _ _).mono (fun _ e => ⟨fun c => (e.1 c).2, e.2⟩)
    (Pool.run_main (F := Ideal) m ρ fun d j => Pool.pools_lt _ _ (h d) j)

/-- The reference ends with its arguments unchanged and no counter raised, whatever its arguments. -/
theorem reference_frame : Cert.quiescent_ReferenceIdeal (hReferenceIdeal := Cert.ReferenceIdeal.Gen.facts) :=
  fun m ρ _ => (θ_run (Cert.ReferenceIdeal.defs (F := Ideal)) _ _).mono
    (fun r e => ⟨fun c => (e c).2, sem_eq_zero_of_no_sems (by decide) r.2⟩) (Cert.ReferenceIdeal.Value.run m ρ)

/-- The two programs, from the same arguments, end with the same result. -/
theorem same_result : Cert.algebraic_KernelIdeal_ReferenceIdeal (hKernelIdeal := Cert.KernelIdeal.Gen.facts)
    (hReferenceIdeal := Cert.ReferenceIdeal.Gen.facts) (hPre_pools_in_range := Cert.Pre_pools_in_range.Gen.facts) := by
  intro m ρ m' ρ' h hm
  have hpre : Pool.PreOK m := fun d j => Pool.pools_lt _ _ (h d) j
  refine ⟨fun c => Pool.R0 m c, (θ_run (Cert.KernelIdeal.defs (F := Ideal)) _ _).mono (fun _ e => e.1) (Pool.run_main (F := Ideal) m ρ hpre),
    (θ_run (Cert.ReferenceIdeal.defs (F := Ideal)) _ _).mono (fun r e c => ⟨(e c).1.trans ?_, (e c).2⟩) (Cert.ReferenceIdeal.Value.run m' ρ')⟩
  rw [(hm c).1, (hm c).2]
  exact (Pool.result_ref m hpre c).symm

/-- Every claim. -/
theorem claim : Cert.Claim :=
  ⟨Cert.Kernel.Gen.facts, Cert.KernelIdeal.Gen.facts, Cert.ReferenceIdeal.Gen.facts, Cert.Pre_pools_in_range.Gen.facts,
    kernel_frame, kernelIdeal_frame, reference_frame, fun m ρ _ => reference_frame m ρ trivial, trivial, same_result⟩

end Cert.Proof

end
